-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S16384x13 : Shape := ⟨2, ![16384, 13]⟩
abbrev S16384x8 : Shape := ⟨2, ![16384, 8]⟩
abbrev S16384x10 : Shape := ⟨2, ![16384, 10]⟩
abbrev S16384x2 : Shape := ⟨2, ![16384, 2]⟩
abbrev S1000000x32 : Shape := ⟨2, ![1000000, 32]⟩
abbrev S16x32 : Shape := ⟨2, ![16, 32]⟩
abbrev S12x32 : Shape := ⟨2, ![12, 32]⟩
abbrev S77x128 : Shape := ⟨2, ![77, 128]⟩
abbrev S128 : Shape := ⟨1, ![128]⟩
abbrev S72x128 : Shape := ⟨2, ![72, 128]⟩
abbrev S10x128 : Shape := ⟨2, ![10, 128]⟩
abbrev S384x128 : Shape := ⟨2, ![384, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384x2 : S_.BroadcastsInDim S16384x2 (![] : Fin 0 → Fin S16384x2.rank)

variable [Facts]

def fn {F : FTy → Type} [FloatOps F] (main_arg0 : FVec F S16384x13 .f32) (main_arg1 : FVec F S16384x8 .f32) (main_arg2 : FVec F S16384x10 .f32) (main_arg3 : IVec S16384x2 32) (main_arg4 : IVec S16384x2 32) (main_arg5 : FVec F S1000000x32 .f32) (main_arg6 : FVec F S1000000x32 .f32) (main_arg7 : FVec F S16x32 .f32) (main_arg8 : FVec F S12x32 .f32) (main_arg9 : FVec F S77x128 .f32) (main_arg10 : FVec F S128 .f32) (main_arg11 : FVec F S72x128 .f32) (main_arg12 : FVec F S128 .f32) (main_arg13 : FVec F S10x128 .f32) (main_arg14 : FVec F S128 .f32) (main_arg15 : FVec F S384x128 .f32) (main_arg16 : FVec F S128 .f32) (main_arg17 : FVec F S128x64 .f32) (main_arg18 : FVec F S64 .f32) (main_arg19 : FVec F S64x32 .f32) (main_arg20 : FVec F S32 .f32) (main_arg21 : FVec F S32x1 .f32) (main_arg22 : FVec F S1 .f32) : IVec S16384x2 1 :=
  let main_c : IVec S_ 32 := constantI S_ 32 0#32
  let main_v0 : IVec S16384x2 32 := broadcastInDim S16384x2 ![] bcast_S_S16384x2 main_c
  let main_v1 : IVec S16384x2 1 := cmpi .sge main_arg3 main_v0
  let main_c_0 : IVec S_ 32 := constantI S_ 32 12#32
  let main_v2 : IVec S16384x2 32 := broadcastInDim S16384x2 ![] bcast_S_S16384x2 main_c_0
  let main_v3 : IVec S16384x2 1 := cmpi .slt main_arg3 main_v2
  let main_v4 : IVec S16384x2 1 := andi main_v1 main_v3
  let main_c_1 : IVec S_ 32 := constantI S_ 32 0#32
  let main_v5 : IVec S16384x2 32 := broadcastInDim S16384x2 ![] bcast_S_S16384x2 main_c_1
  let main_v6 : IVec S16384x2 1 := cmpi .sge main_arg4 main_v5
  let main_v7 : IVec S16384x2 1 := andi main_v4 main_v6
  let main_c_2 : IVec S_ 32 := constantI S_ 32 16#32
  let main_v8 : IVec S16384x2 32 := broadcastInDim S16384x2 ![] bcast_S_S16384x2 main_c_2
  let main_v9 : IVec S16384x2 1 := cmpi .slt main_arg4 main_v8
  let main_v10 : IVec S16384x2 1 := andi main_v7 main_v9
  main_v10
-- ==== Kernel.lean ====
abbrev S16384x13 : Shape := ⟨2, ![16384, 13]⟩
abbrev S16384x8 : Shape := ⟨2, ![16384, 8]⟩
abbrev S16384x10 : Shape := ⟨2, ![16384, 10]⟩
abbrev S16384x2 : Shape := ⟨2, ![16384, 2]⟩
abbrev S1000000x32 : Shape := ⟨2, ![1000000, 32]⟩
abbrev S16x32 : Shape := ⟨2, ![16, 32]⟩
abbrev S12x32 : Shape := ⟨2, ![12, 32]⟩
abbrev S77x128 : Shape := ⟨2, ![77, 128]⟩
abbrev S128 : Shape := ⟨1, ![128]⟩
abbrev S72x128 : Shape := ⟨2, ![72, 128]⟩
abbrev S10x128 : Shape := ⟨2, ![10, 128]⟩
abbrev S384x128 : Shape := ⟨2, ![384, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384x31 : Shape := ⟨2, ![16384, 31]⟩
abbrev S1x128 : Shape := ⟨2, ![1, 128]⟩
abbrev S547x128 : Shape := ⟨2, ![547, 128]⟩
abbrev S16384x1 : Shape := ⟨2, ![16384, 1]⟩
abbrev S4096x31 : Shape := ⟨2, ![4096, 31]⟩
abbrev S4096x2 : Shape := ⟨2, ![4096, 2]⟩
abbrev S4096x1 : Shape := ⟨2, ![4096, 1]⟩
abbrev S4096x13 : Shape := ⟨2, ![4096, 13]⟩
abbrev S4096x8 : Shape := ⟨2, ![4096, 8]⟩
abbrev S4096x10 : Shape := ⟨2, ![4096, 10]⟩
abbrev S4096x4 : Shape := ⟨2, ![4096, 4]⟩
abbrev S4x64 : Shape := ⟨2, ![4, 64]⟩
abbrev S4x1 : Shape := ⟨2, ![4, 1]⟩
abbrev S1x64 : Shape := ⟨2, ![1, 64]⟩
abbrev S4096x64 : Shape := ⟨2, ![4096, 64]⟩
abbrev S4096x32 : Shape := ⟨2, ![4096, 32]⟩
abbrev S32x128 : Shape := ⟨2, ![32, 128]⟩
abbrev S16x128 : Shape := ⟨2, ![16, 128]⟩
abbrev S12x128 : Shape := ⟨2, ![12, 128]⟩
abbrev S4x128 : Shape := ⟨2, ![4, 128]⟩
abbrev S13x128 : Shape := ⟨2, ![13, 128]⟩
abbrev S4096x128 : Shape := ⟨2, ![4096, 128]⟩
abbrev S8x128 : Shape := ⟨2, ![8, 128]⟩
abbrev S128x128 : Shape := ⟨2, ![128, 128]⟩
abbrev S1x32 : Shape := ⟨2, ![1, 32]⟩
abbrev S1x1 : Shape := ⟨2, ![1, 1]⟩

abbrev nBuf : Space → Nat
  | .hbm => 32
  | .vmem => 19
  | .smem => 0
  | _ => 0

abbrev bufTy : (tb : Table) → Fin (tcTables nBuf tb) → BufTy
  | .hbm, ⟨0, _⟩ => ⟨S16384x13, .f32⟩
  | .hbm, ⟨1, _⟩ => ⟨S16384x8, .f32⟩
  | .hbm, ⟨2, _⟩ => ⟨S16384x10, .f32⟩
  | .hbm, ⟨3, _⟩ => ⟨S16384x2, .i32⟩
  | .hbm, ⟨4, _⟩ => ⟨S16384x2, .i32⟩
  | .hbm, ⟨5, _⟩ => ⟨S1000000x32, .f32⟩
  | .hbm, ⟨6, _⟩ => ⟨S1000000x32, .f32⟩
  | .hbm, ⟨7, _⟩ => ⟨S16x32, .f32⟩
  | .hbm, ⟨8, _⟩ => ⟨S12x32, .f32⟩
  | .hbm, ⟨9, _⟩ => ⟨S77x128, .f32⟩
  | .hbm, ⟨10, _⟩ => ⟨S128, .f32⟩
  | .hbm, ⟨11, _⟩ => ⟨S72x128, .f32⟩
  | .hbm, ⟨12, _⟩ => ⟨S128, .f32⟩
  | .hbm, ⟨13, _⟩ => ⟨S10x128, .f32⟩
  | .hbm, ⟨14, _⟩ => ⟨S128, .f32⟩
  | .hbm, ⟨15, _⟩ => ⟨S384x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64x32, .f32⟩
  | .hbm, ⟨20, _⟩ => ⟨S32, .f32⟩
  | .hbm, ⟨21, _⟩ => ⟨S32x1, .f32⟩
  | .hbm, ⟨22, _⟩ => ⟨S1, .f32⟩
  | .hbm, ⟨23, _⟩ => ⟨S16384x31, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S547x128, .f32⟩
  | .hbm, ⟨29, _⟩ => ⟨S16x32, .f32⟩
  | .hbm, ⟨30, _⟩ => ⟨S16x32, .f32⟩
  | .hbm, ⟨31, _⟩ => ⟨S16384x1, .f32⟩
  | .local _ .vmem, ⟨0, _⟩ => ⟨S4096x31, .f32⟩
  | .local _ .vmem, ⟨1, _⟩ => ⟨S4096x31, .f32⟩
  | .local _ .vmem, ⟨2, _⟩ => ⟨S4096x2, .i32⟩
  | .local _ .vmem, ⟨3, _⟩ => ⟨S4096x2, .i32⟩
  | .local _ .vmem, ⟨4, _⟩ => ⟨S4096x2, .i32⟩
  | .local _ .vmem, ⟨5, _⟩ => ⟨S4096x2, .i32⟩
  | .local _ .vmem, ⟨6, _⟩ => ⟨S547x128, .f32⟩
  | .local _ .vmem, ⟨7, _⟩ => ⟨S16x32, .f32⟩
  | .local _ .vmem, ⟨8, _⟩ => ⟨S16x32, .f32⟩
  | .local _ .vmem, ⟨9, _⟩ => ⟨S16x32, .f32⟩
  | .local _ .vmem, ⟨10, _⟩ => ⟨S12x32, .f32⟩
  | .local _ .vmem, ⟨11, _⟩ => ⟨S128x64, .f32⟩
  | .local _ .vmem, ⟨12, _⟩ => ⟨S64, .f32⟩
  | .local _ .vmem, ⟨13, _⟩ => ⟨S64x32, .f32⟩
  | .local _ .vmem, ⟨14, _⟩ => ⟨S32, .f32⟩
  | .local _ .vmem, ⟨15, _⟩ => ⟨S32x1, .f32⟩
  | .local _ .vmem, ⟨16, _⟩ => ⟨S1, .f32⟩
  | .local _ .vmem, ⟨17, _⟩ => ⟨S4096x1, .f32⟩
  | .local _ .vmem, ⟨18, _⟩ => ⟨S4096x1, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S547x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4096x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16384x13 : Shape := ⟨2, ![16384, 13]⟩
abbrev S16384x8 : Shape := ⟨2, ![16384, 8]⟩
abbrev S16384x10 : Shape := ⟨2, ![16384, 10]⟩
abbrev S16384x2 : Shape := ⟨2, ![16384, 2]⟩
abbrev S1000000x32 : Shape := ⟨2, ![1000000, 32]⟩
abbrev S16x32 : Shape := ⟨2, ![16, 32]⟩
abbrev S12x32 : Shape := ⟨2, ![12, 32]⟩
abbrev S77x128 : Shape := ⟨2, ![77, 128]⟩
abbrev S128 : Shape := ⟨1, ![128]⟩
abbrev S72x128 : Shape := ⟨2, ![72, 128]⟩
abbrev S10x128 : Shape := ⟨2, ![10, 128]⟩
abbrev S384x128 : Shape := ⟨2, ![384, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x32 : Shape := ⟨2, ![16384, 32]⟩
abbrev S16384x77 : Shape := ⟨2, ![16384, 77]⟩
abbrev S16384x72 : Shape := ⟨2, ![16384, 72]⟩
abbrev S16384x128 : Shape := ⟨2, ![16384, 128]⟩
abbrev S1x128 : Shape := ⟨2, ![1, 128]⟩
abbrev S16384x384 : Shape := ⟨2, ![16384, 384]⟩
abbrev S16384x64 : Shape := ⟨2, ![16384, 64]⟩
abbrev S1x64 : Shape := ⟨2, ![1, 64]⟩
abbrev S1x32 : Shape := ⟨2, ![1, 32]⟩

abbrev nBuf : Space → Nat
  | .hbm => 172
  | .vmem => 0
  | .smem => 0
  | _ => 0

abbrev hbmTy0_0 (i : Nat) : BufTy := match i % 128 with
  | 0 => ⟨S16384x13, .f32⟩
  | 1 => ⟨S16384x8, .f32⟩
  | 2 => ⟨S16384x10, .f32⟩
  | 3 => ⟨S16384x2, .i32⟩
  | 4 => ⟨S16384x2, .i32⟩
  | 5 => ⟨S1000000x32, .f32⟩
  | 6 => ⟨S1000000x32, .f32⟩
  | 7 => ⟨S16x32, .f32⟩
  | 8 => ⟨S12x32, .f32⟩
  | 9 => ⟨S77x128, .f32⟩
  | 10 => ⟨S128, .f32⟩
  | 11 => ⟨S72x128, .f32⟩
  | 12 => ⟨S128, .f32⟩
  | 13 => ⟨S10x128, .f32⟩
  | 14 => ⟨S128, .f32⟩
  | 15 => ⟨S384x128, .f32⟩
  | 16 => ⟨S128, .f32⟩
  | 17 => ⟨S128x64, .f32⟩
  | 18 => ⟨S64, .f32⟩
  | 19 => ⟨S64x32, .f32⟩
  | 20 => ⟨S32, .f32⟩
  | 21 => ⟨S32x1, .f32⟩
  | 22 => ⟨S1, .f32⟩
  | 23 => ⟨S16384x1, .i32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S1, .i32⟩
  | 34 => ⟨S_, .i32⟩
  | 35 => ⟨S16384x1, .i32⟩
  | 36 => ⟨S16384x1, .i1⟩
  | 37 => ⟨S1x1, .i32⟩
  | 38 => ⟨S16384x1, .i32⟩
  | 39 => ⟨S16384x1, .i1⟩
  | 40 => ⟨S16384x1, .i1⟩
  | 41 => ⟨S_, .i1⟩
  | 42 => ⟨S16384, .i1⟩
  | 43 => ⟨S16384x32, .f32⟩
  | 44 => ⟨S16384x32, .i1⟩
  | 45 => ⟨S_, .f32⟩
  | 46 => ⟨S16384x32, .f32⟩
  | 47 => ⟨S16384x32, .f32⟩
  | 48 => ⟨S16384x1, .i32⟩
  | 49 => ⟨S16384, .i32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S1, .i32⟩
  | 59 => ⟨S_, .i32⟩
  | 60 => ⟨S16384x1, .i32⟩
  | 61 => ⟨S16384x1, .i1⟩
  | 62 => ⟨S1x1, .i32⟩
  | 63 => ⟨S16384x1, .i32⟩
  | 64 => ⟨S16384x1, .i1⟩
  | 65 => ⟨S16384x1, .i1⟩
  | 66 => ⟨S_, .i1⟩
  | 67 => ⟨S16384, .i1⟩
  | 68 => ⟨S16384x32, .f32⟩
  | 69 => ⟨S16384x32, .i1⟩
  | 70 => ⟨S_, .f32⟩
  | 71 => ⟨S16384x32, .f32⟩
  | 72 => ⟨S16384x32, .f32⟩
  | 73 => ⟨S16384x1, .i32⟩
  | 74 => ⟨S16384, .i32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384, .i32⟩
  | 82 => ⟨S16384x1, .i32⟩
  | 83 => ⟨S1, .i32⟩
  | 84 => ⟨S_, .i32⟩
  | 85 => ⟨S16384x1, .i32⟩
  | 86 => ⟨S16384x1, .i1⟩
  | 87 => ⟨S1x1, .i32⟩
  | 88 => ⟨S16384x1, .i32⟩
  | 89 => ⟨S16384x1, .i1⟩
  | 90 => ⟨S16384x1, .i1⟩
  | 91 => ⟨S_, .i1⟩
  | 92 => ⟨S16384, .i1⟩
  | 93 => ⟨S16384x32, .f32⟩
  | 94 => ⟨S16384x32, .i1⟩
  | 95 => ⟨S_, .f32⟩
  | 96 => ⟨S16384x32, .f32⟩
  | 97 => ⟨S16384x32, .f32⟩
  | 98 => ⟨S16384x1, .i32⟩
  | 99 => ⟨S16384, .i32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S1, .i32⟩
  | 109 => ⟨S_, .i32⟩
  | 110 => ⟨S16384x1, .i32⟩
  | 111 => ⟨S16384x1, .i1⟩
  | 112 => ⟨S1x1, .i32⟩
  | 113 => ⟨S16384x1, .i32⟩
  | 114 => ⟨S16384x1, .i1⟩
  | 115 => ⟨S16384x1, .i1⟩
  | 116 => ⟨S_, .i1⟩
  | 117 => ⟨S16384, .i1⟩
  | 118 => ⟨S16384x32, .f32⟩
  | 119 => ⟨S16384x32, .i1⟩
  | 120 => ⟨S_, .f32⟩
  | 121 => ⟨S16384x32, .f32⟩
  | 122 => ⟨S16384x32, .f32⟩
  | 123 => ⟨S16384x77, .f32⟩
  | 124 => ⟨S16384x72, .f32⟩
  | 125 => ⟨S16384x128, .f32⟩
  | 126 => ⟨S1x128, .f32⟩
  | 127 => ⟨S16384x128, .f32⟩
  | _ => ⟨S16384x13, .f32⟩

abbrev hbmTy0_1 (i : Nat) : BufTy := match i % 128 with
  | 0 => ⟨S16384x128, .f32⟩
  | 1 => ⟨S_, .f32⟩
  | 2 => ⟨S16384x128, .f32⟩
  | 3 => ⟨S16384x128, .f32⟩
  | 4 => ⟨S16384x128, .f32⟩
  | 5 => ⟨S1x128, .f32⟩
  | 6 => ⟨S16384x128, .f32⟩
  | 7 => ⟨S16384x128, .f32⟩
  | 8 => ⟨S_, .f32⟩
  | 9 => ⟨S16384x128, .f32⟩
  | 10 => ⟨S16384x128, .f32⟩
  | 11 => ⟨S16384x128, .f32⟩
  | 12 => ⟨S1x128, .f32⟩
  | 13 => ⟨S16384x128, .f32⟩
  | 14 => ⟨S16384x128, .f32⟩
  | 15 => ⟨S_, .f32⟩
  | 16 => ⟨S16384x128, .f32⟩
  | 17 => ⟨S16384x128, .f32⟩
  | 18 => ⟨S16384x384, .f32⟩
  | 19 => ⟨S16384x128, .f32⟩
  | 20 => ⟨S1x128, .f32⟩
  | 21 => ⟨S16384x128, .f32⟩
  | 22 => ⟨S16384x128, .f32⟩
  | 23 => ⟨S_, .f32⟩
  | 24 => ⟨S16384x128, .f32⟩
  | 25 => ⟨S16384x128, .f32⟩
  | 26 => ⟨S16384x64, .f32⟩
  | 27 => ⟨S1x64, .f32⟩
  | 28 => ⟨S16384x64, .f32⟩
  | 29 => ⟨S16384x64, .f32⟩
  | 30 => ⟨S_, .f32⟩
  | 31 => ⟨S16384x64, .f32⟩
  | 32 => ⟨S16384x64, .f32⟩
  | 33 => ⟨S16384x32, .f32⟩
  | 34 => ⟨S1x32, .f32⟩
  | 35 => ⟨S16384x32, .f32⟩
  | 36 => ⟨S16384x32, .f32⟩
  | 37 => ⟨S_, .f32⟩
  | 38 => ⟨S16384x32, .f32⟩
  | 39 => ⟨S16384x32, .f32⟩
  | 40 => ⟨S16384x1, .f32⟩
  | 41 => ⟨S1x1, .f32⟩
  | 42 => ⟨S16384x1, .f32⟩
  | 43 => ⟨S16384x1, .f32⟩
  | _ => ⟨S16384x13, .f32⟩

abbrev hbmTy (i : Nat) : BufTy := match i / 128 with
  | 0 => hbmTy0_0 i
  | 1 => hbmTy0_1 i
  | _ => ⟨S16384x13, .f32⟩

abbrev bufTy : (tb : Table) → Fin (tcTables nBuf tb) → BufTy
  | .hbm, ⟨i, _⟩ => hbmTy i
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v8 : Ref sig .tc := ⟨.hbm, 97, rfl⟩
abbrev main_v9 : Ref sig .tc := ⟨.hbm, 98, rfl⟩
abbrev main_v10 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v11 : Ref sig .tc := ⟨.hbm, 122, rfl⟩
abbrev main_v12 : Ref sig .tc := ⟨.hbm, 123, rfl⟩
abbrev main_v13 : Ref sig .tc := ⟨.hbm, 124, rfl⟩
abbrev main_v14 : Ref sig .tc := ⟨.hbm, 125, rfl⟩
abbrev main_v15 : Ref sig .tc := ⟨.hbm, 126, rfl⟩
abbrev main_v16 : Ref sig .tc := ⟨.hbm, 127, rfl⟩
abbrev main_v17 : Ref sig .tc := ⟨.hbm, 128, rfl⟩
abbrev main_call4_cst : Ref sig .tc := ⟨.hbm, 129, rfl⟩
abbrev main_call4_v0 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_call5_cst : Ref sig .tc := ⟨.hbm, 136, rfl⟩
abbrev main_call5_v0 : Ref sig .tc := ⟨.hbm, 137, rfl⟩
abbrev main_v23 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_v27 : Ref sig .tc := ⟨.hbm, 142, rfl⟩
abbrev main_call6_cst : Ref sig .tc := ⟨.hbm, 143, rfl⟩
abbrev main_call6_v0 : Ref sig .tc := ⟨.hbm, 144, rfl⟩
abbrev main_v28 : Ref sig .tc := ⟨.hbm, 145, rfl⟩
abbrev main_v29 : Ref sig .tc := ⟨.hbm, 146, rfl⟩
abbrev main_v30 : Ref sig .tc := ⟨.hbm, 147, rfl⟩
abbrev main_v31 : Ref sig .tc := ⟨.hbm, 148, rfl⟩
abbrev main_v32 : Ref sig .tc := ⟨.hbm, 149, rfl⟩
abbrev main_v33 : Ref sig .tc := ⟨.hbm, 150, rfl⟩
abbrev main_call7_cst : Ref sig .tc := ⟨.hbm, 151, rfl⟩
abbrev main_call7_v0 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_call9_cst : Ref sig .tc := ⟨.hbm, 165, rfl⟩
abbrev main_call9_v0 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩

abbrev nD : Nat := 1
abbrev τ : Topo := Topo.v7x

variable {F : FTy → Type} [FloatOps F]
-- ==== Proof.OneHot.lean ====
/-
  The kernel's 4096 × 64 matrix of zeros and ones, read at an index. For each sample it holds four rows of 16 side by
  side, one per index column (user, month, item, genre); row `q` has its 1 where the column's number equals the index.

  The kernel builds it from products: the four indices as floats times a 4 × 64 matrix that repeats each of them sixteen
  times, compared with 0 … 15 repeated four times. Both small matrices come from integer divisions of column numbers,
  written out with the corrections that make them round down; at 64 columns they are evaluated.
-/
module

public import proofs.«01_k».proof.Proof.Gen.KernelIdeal.Skeleton
public import Idealize.ShloMosaic.Lib.Pointwise

@[expose] public section

set_option maxRecDepth 16384

noncomputable section

namespace Cert.KernelIdeal.OneHot

open Idealize.ShloMosaic Cert.KernelIdeal Cert.KernelIdeal.Gen

/-- The word the kernel computes for row `q`, column `k` of the repeating matrix is 1 where `k / 16 = q`, else 0. -/
theorem repeat_word : ∀ (q : Fin 4) (k : Fin 64),
    (BitVec.setWidth 32 (IntOp.cmpi .eq
      (Scalar.select
        (IntOp.andi
          (IntOp.cmpi .ne
            (IntOp.subi (BitVec.setWidth 32 (IntOp.cmpi .sgt (BitVec.ofNat 32 k.val) 0#32))
              (BitVec.setWidth 32 (IntOp.cmpi .slt (BitVec.ofNat 32 k.val) 0#32)))
            (Scalar.subi (Scalar.extui (Scalar.cmpi .sgt 16#32 0#32)) (Scalar.extui (Scalar.cmpi .slt 16#32 0#32))))
          (IntOp.cmpi .ne (IntOp.remsi .vector (BitVec.ofNat 32 k.val) 16#32) 0#32))
        (IntOp.subi (IntOp.divsi .vector (BitVec.ofNat 32 k.val) 16#32) 1#32)
        (IntOp.divsi .vector (BitVec.ofNat 32 k.val) 16#32))
      (BitVec.ofNat 32 q.val))).toInt = if k.val / 16 = q.val then 1 else 0 := by
  decide

/-- The repeating matrix at row `q`, column `k`: 1 where `k / 16 = q`, else 0. -/
theorem repeat_apply (q : Fin 4) (k : Fin 64) :
    k0_pay6 (F := Ideal) (ix2 q k) = if k.val / 16 = q.val then 1 else 0 := by
  pointwise [k0_pay6]
  refine (congrArg (fun n : ℤ => ((n : ℝ) : EReal)) (repeat_word q k)).trans ?_
  split <;> simp

/-- The word the kernel computes for column `k` of the counting row is `k % 16`. -/
theorem count_word : ∀ k : Fin 64,
    (Scalar.select
      (IntOp.andi
        (IntOp.xori
          (IntOp.cmpi .slt
            (IntOp.remsi .vector (BitVec.ofNat 32 k.val) (Scalar.select (Scalar.cmpi .eq 16#32 0#32) 1#32 16#32)) 0#32)
          (Scalar.cmpi .slt (Scalar.select (Scalar.cmpi .eq 16#32 0#32) 1#32 16#32) 0#32))
        (IntOp.cmpi .ne
          (IntOp.remsi .vector (BitVec.ofNat 32 k.val) (Scalar.select (Scalar.cmpi .eq 16#32 0#32) 1#32 16#32)) 0#32))
      (IntOp.addi
        (IntOp.remsi .vector (BitVec.ofNat 32 k.val) (Scalar.select (Scalar.cmpi .eq 16#32 0#32) 1#32 16#32))
        (Scalar.select (Scalar.cmpi .eq 16#32 0#32) 1#32 16#32))
      (IntOp.remsi .vector (BitVec.ofNat 32 k.val) (Scalar.select (Scalar.cmpi .eq 16#32 0#32) 1#32 16#32))).toInt
    = ((k.val % 16 : Nat) : ℤ) := by
  decide

/-- Four numbers times a row of the repeating matrix: only the selected one is left. -/
theorem sum_repeat (v : Fin 4 → EReal) (k : Fin 64) :
    (∑ q : Fin 4, v q * if k.val / 16 = q.val then 1 else 0) = v ⟨k.val / 16, by omega⟩ := by
  rw [Finset.sum_eq_single ⟨k.val / 16, by omega⟩]
  · rw [if_pos rfl, mul_one]
  · intro q _ hq
    rw [if_neg fun h => hq (Fin.ext h.symm), mul_zero]
  · exact fun h => absurd (Finset.mem_univ _) h

/-- The index word of sample `p` in column `q` of the four: two of the user's, then two of the item's. -/
def word (x y : IVec S4096x2 32) (p : Fin 4096) (q : Fin 4) : BitVec 32 :=
  if h : q.val < 2 then x (ix2 p ⟨q.val, h⟩) else y (ix2 p ⟨q.val - 2, by omega⟩)

/-- The word read at a column that equals a known one is the word known there. -/
theorem word_of (x y : IVec S4096x2 32) (p : Fin 4096) {q : Fin 4} (q' : Fin 4) (h : q.val = q'.val) {w : BitVec 32}
    (hw : word x y p q' = w) : word x y p q = w :=
  (congrArg (word x y p) (Fin.ext h)).trans hw

/-- The matrix of zeros and ones at sample `p`, column `k`: 1 where the index in column `k / 16` equals `k % 16`. -/
theorem oneHot_apply (x y : Vec Ideal S4096x2 .i32) (p : Fin 4096) (k : Fin 64) :
    k0_pay7 (k0_pay5 (F := Ideal) x y) k0_pay6 (iota .tc S1x64 32 [1] iota_S1x64_d1_w32) 16#32 (ix2 p k)
      = if (word x y p ⟨k.val / 16, by omega⟩).toInt = ((k.val % 16 : Nat) : ℤ) then 1 else 0 := by
  have hv : ∀ q : Fin 4, k0_pay5 (F := Ideal) x y (ix2 p q) = (((word x y p q).toInt : ℝ) : EReal) := fun q => by
    pointwise [k0_pay5]
    rfl
  pointwise [k0_pay7]
  simp only [hv, repeat_apply]
  rw [sum_repeat fun q => (((word x y p q).toInt : ℝ) : EReal)]
  have hc := congrArg (fun n : ℤ => ((n : ℝ) : EReal)) (count_word k)
  have he : ∀ b : Bool, FloatOps.sitofp (F := Ideal) FTy.f32 (BitVec.setWidth 32 (BitVec.ofBool b)) = if b = true then (1 : EReal) else 0 := by
    intro b
    cases b
    · exact (congrArg (fun n : ℤ => ((n : ℝ) : EReal)) (show (0#32).toInt = 0 from rfl)).trans (by simp)
    · exact (congrArg (fun n : ℤ => ((n : ℝ) : EReal)) (show (1#32).toInt = 1 from rfl)).trans (by simp)
  rw [he]
  simp only [decide_eq_true_eq]
  refine if_congr ?_ rfl rfl
  refine (Eq.congr_right hc).trans ?_
  simp only [EReal.coe_eq_coe_iff, Int.cast_inj]

/-- An index below 16, read as an integer, is itself. -/
theorem toInt_index : ∀ u : Fin 16, (BitVec.ofNat 32 u.val).toInt = (u.val : ℤ) := by
  decide

/-- A word that is the index `u` in the first sixteen columns and `v` in the last sixteen equals the column's number
    within its sixteen at columns `u` and `16 + v` only. -/
theorem pick_iff (u v : Fin 16) (k : Fin 32) {w : BitVec 32} {n : Nat} (hu : k.val < 16 → w = BitVec.ofNat 32 u.val)
    (hv : ¬ k.val < 16 → w = BitVec.ofNat 32 v.val) (hn : n = k.val % 16) :
    w.toInt = (n : ℤ) ↔ k = ⟨u.val, by omega⟩ ∨ k = ⟨16 + v.val, by omega⟩ := by
  rw [Fin.ext_iff, Fin.ext_iff]
  show _ ↔ k.val = u.val ∨ k.val = 16 + v.val
  by_cases hk : k.val < 16
  · rw [hu hk, toInt_index]
    omega
  · rw [hv hk, toInt_index]
    omega

/-- The left half of the matrix at sample `p`, whose user index is `u` and month index `v`: ones at `u` and `16 + v`. -/
theorem user_apply (x y : Vec Ideal S4096x2 .i32) (p : Fin 4096) (u v : Fin 16)
    (hu : x (ix2 p 0) = BitVec.ofNat 32 u.val) (hv : x (ix2 p 1) = BitVec.ofNat 32 v.val) (k : Fin 32) :
    k0_pay8 (k0_pay5 (F := Ideal) x y) k0_pay6 (iota .tc S1x64 32 [1] iota_S1x64_d1_w32) 16#32 (ix2 p k)
      = if k = ⟨u.val, by omega⟩ ∨ k = ⟨16 + v.val, by omega⟩ then 1 else 0 := by
  have h : k0_pay8 (k0_pay5 (F := Ideal) x y) k0_pay6 (iota .tc S1x64 32 [1] iota_S1x64_d1_w32) 16#32 (ix2 p k)
      = k0_pay7 (k0_pay5 (F := Ideal) x y) k0_pay6 (iota .tc S1x64 32 [1] iota_S1x64_d1_w32) 16#32 (ix2 p ⟨k.val, by omega⟩) := by
    pointwise [k0_pay8]
  rw [h, oneHot_apply]
  exact if_congr (pick_iff u v k
    (fun hk => word_of x y p 0 (by show k.val / 16 = 0; omega) hu)
    (fun hk => word_of x y p 1 (by show k.val / 16 = 1; omega) hv)
    (by show k.val % 16 = k.val % 16; omega)) rfl rfl

/-- The right half of the matrix at sample `p`, whose item index is `u` and genre index `v`: ones at `u` and `16 + v`. -/
theorem item_apply (x y : Vec Ideal S4096x2 .i32) (p : Fin 4096) (u v : Fin 16)
    (hu : y (ix2 p 0) = BitVec.ofNat 32 u.val) (hv : y (ix2 p 1) = BitVec.ofNat 32 v.val) (k : Fin 32) :
    k0_pay9 (k0_pay5 (F := Ideal) x y) k0_pay6 (iota .tc S1x64 32 [1] iota_S1x64_d1_w32) 16#32 (ix2 p k)
      = if k = ⟨u.val, by omega⟩ ∨ k = ⟨16 + v.val, by omega⟩ then 1 else 0 := by
  have h : k0_pay9 (k0_pay5 (F := Ideal) x y) k0_pay6 (iota .tc S1x64 32 [1] iota_S1x64_d1_w32) 16#32 (ix2 p k)
      = k0_pay7 (k0_pay5 (F := Ideal) x y) k0_pay6 (iota .tc S1x64 32 [1] iota_S1x64_d1_w32) 16#32 (ix2 p ⟨32 + k.val, by omega⟩) := by
    pointwise [k0_pay9]
  rw [h, oneHot_apply]
  exact if_congr (pick_iff u v k
    (fun hk => word_of x y p 2 (by show (32 + k.val) / 16 = 2; omega) hu)
    (fun hk => word_of x y p 3 (by show (32 + k.val) / 16 = 3; omega) hv)
    (by show (32 + k.val) % 16 = k.val % 16; omega)) rfl rfl

end Cert.KernelIdeal.OneHot

end
-- ==== Proof.Tower.lean ====
/-
  The network, one sample at a time, over the extended reals: three input towers, the layer that joins them and the
  three layers after it. The plain functions here name neither the kernel nor the reference; both are shown to compute
  `Net.score` of each sample.

  Multiplying by a row of zeros and one or two ones picks rows (`sum_oneHot₂`); nothing else about the arithmetic of the
  extended reals is used beyond reordering sums, so no entry has to be finite.
-/
module

public import Mathlib.Data.EReal.Operations
public import Mathlib.Algebra.BigOperators.Fin

@[expose] public section

noncomputable section

namespace Cert.Tower

/-- Entry `j` of a dense layer with rectified result: `max (x · W + b) 0`. -/
def dense {n p : Nat} (x : Fin n → EReal) (W : Fin n → Fin p → EReal) (b : Fin p → EReal) (j : Fin p) : EReal :=
  max (∑ k, x k * W k j + b j) 0

/-- Entry `j` of a tower fed with `n` continuous features and two embedding rows of 32: the rectified product of the
    three pieces with the three row blocks of the tower's weight `W` (`n` rows, then 32, then 32), plus the bias. -/
def tower {n N : Nat} (hN : n + 64 = N) (c : Fin n → EReal) (e₁ e₂ : Fin 32 → EReal) (W : Fin N → Fin 128 → EReal)
    (b : Fin 128 → EReal) (j : Fin 128) : EReal :=
  max (∑ k : Fin n, c k * W ⟨k.val, by omega⟩ j
    + (∑ k : Fin 32, e₁ k * W ⟨n + k.val, by omega⟩ j + ∑ k : Fin 32, e₂ k * W ⟨n + 32 + k.val, by omega⟩ j) + b j) 0

/-- Entry `j` of the layer over the three towers' results, whose weight has 128 rows for each of them. -/
def joint (hu hi hn : Fin 128 → EReal) (W : Fin 384 → Fin 128 → EReal) (b : Fin 128 → EReal) (j : Fin 128) : EReal :=
  max (∑ k : Fin 128, hu k * W ⟨k.val, by omega⟩ j + ∑ k : Fin 128, hi k * W ⟨128 + k.val, by omega⟩ j
    + ∑ k : Fin 128, hn k * W ⟨256 + k.val, by omega⟩ j + b j) 0

/-- The network's weights and biases. -/
structure Net where
  /-- user tower -/
  Wu : Fin 77 → Fin 128 → EReal
  bu : Fin 128 → EReal
  /-- item tower -/
  Wi : Fin 72 → Fin 128 → EReal
  bi : Fin 128 → EReal
  /-- network tower -/
  Wn : Fin 10 → Fin 128 → EReal
  bn : Fin 128 → EReal
  /-- the layer over the towers -/
  Wj : Fin 384 → Fin 128 → EReal
  bj : Fin 128 → EReal
  /-- the two hidden layers and the output -/
  W₁ : Fin 128 → Fin 64 → EReal
  b₁ : Fin 64 → EReal
  W₂ : Fin 64 → Fin 32 → EReal
  b₂ : Fin 32 → EReal
  Wo : Fin 32 → EReal
  bo : EReal

/-- One sample: the continuous features of its user, item and network, and the four embedding rows it selects. -/
structure Sample where
  uc : Fin 13 → EReal
  ic : Fin 8 → EReal
  nc : Fin 10 → EReal
  user : Fin 32 → EReal
  month : Fin 32 → EReal
  item : Fin 32 → EReal
  genre : Fin 32 → EReal

/-- The first layer over the towers, for one sample. -/
def Net.joined (N : Net) (s : Sample) : Fin 128 → EReal :=
  joint (tower rfl s.uc s.user s.month N.Wu N.bu) (tower rfl s.ic s.item s.genre N.Wi N.bi) (dense s.nc N.Wn N.bn) N.Wj N.bj

/-- The network's output for one sample. -/
def Net.score (N : Net) (s : Sample) : EReal :=
  ∑ k, dense (dense (N.joined s) N.W₁ N.b₁) N.W₂ N.b₂ k * N.Wo k + N.bo

/-- A row `o` of 32 entries that is 1 at two different positions and 0 elsewhere picks those two rows of `M` and adds
    them. -/
theorem sum_oneHot₂ (o M : Fin 32 → EReal) (a b : Fin 32) (hab : a ≠ b) (ho : ∀ k, o k = if k = a ∨ k = b then 1 else 0) :
    ∑ k, o k * M k = M a + M b := by
  rw [← Finset.sum_pair hab]
  refine (Finset.sum_subset (Finset.subset_univ {a, b}) fun k _ hk => ?_).symm.trans (Finset.sum_congr rfl fun k hk => ?_)
  · simp only [Finset.mem_insert, Finset.mem_singleton] at hk
    rw [ho, if_neg hk, zero_mul]
  · simp only [Finset.mem_insert, Finset.mem_singleton] at hk
    rw [ho, if_pos hk, one_mul]

/-- The first sixteen entries of a row that is 1 at `a` and at `16 + b` and 0 elsewhere pick row `a`. -/
theorem sum_oneHot_left (o : Fin 32 → EReal) (M : Fin 16 → EReal) (a b : Fin 16)
    (ho : ∀ k, o k = if k = ⟨a.val, by omega⟩ ∨ k = ⟨16 + b.val, by omega⟩ then 1 else 0) :
    ∑ k : Fin 16, o ⟨k.val, by omega⟩ * M k = M a := by
  rw [Finset.sum_eq_single a]
  · rw [ho, if_pos (Or.inl rfl), one_mul]
  · intro k _ hk
    rw [ho, if_neg, zero_mul]
    rintro (e | e)
    · exact hk (Fin.ext (Fin.mk.inj e))
    · have e' : k.val = 16 + b.val := congrArg Fin.val e
      omega
  · exact fun h => absurd (Finset.mem_univ _) h

/-- The last sixteen entries of such a row pick row `b`. -/
theorem sum_oneHot_right (o : Fin 32 → EReal) (M : Fin 16 → EReal) (a b : Fin 16)
    (ho : ∀ k, o k = if k = ⟨a.val, by omega⟩ ∨ k = ⟨16 + b.val, by omega⟩ then 1 else 0) :
    ∑ k : Fin 16, o ⟨16 + k.val, by omega⟩ * M k = M b := by
  rw [Finset.sum_eq_single b]
  · rw [ho, if_pos (Or.inr rfl), one_mul]
  · intro k _ hk
    rw [ho, if_neg, zero_mul]
    rintro (e | e)
    · have e' : 16 + k.val = a.val := congrArg Fin.val e
      omega
    · have e' : 16 + k.val = 16 + b.val := congrArg Fin.val e
      exact hk (Fin.ext (by omega))
  · exact fun h => absurd (Finset.mem_univ _) h

/-- A sum over three parts laid end to end is the sum of the parts' sums. -/
theorem sum_parts {a b d N : Nat} (h : a + (b + d) = N) (f : Fin a → EReal) (g : Fin b → EReal) (q : Fin d → EReal)
    (w : Fin N → EReal) :
    ∑ x : Fin N, (if h₁ : x.val < a then f ⟨x.val, h₁⟩
        else if h₂ : x.val - a < b then g ⟨x.val - a, h₂⟩ else q ⟨x.val - a - b, by omega⟩) * w x
      = ∑ k : Fin a, f k * w ⟨k.val, by omega⟩
        + (∑ k : Fin b, g k * w ⟨a + k.val, by omega⟩ + ∑ k : Fin d, q k * w ⟨a + b + k.val, by omega⟩) := by
  subst h
  rw [Fin.sum_univ_add, Fin.sum_univ_add]
  refine congrArg₂ (· + ·) (Finset.sum_congr rfl fun k _ => ?_)
    (congrArg₂ (· + ·) (Finset.sum_congr rfl fun k _ => ?_) (Finset.sum_congr rfl fun k _ => ?_))
  · rw [dif_pos (show (Fin.castAdd (b + d) k).val < a from k.isLt)]
    rfl
  · rw [dif_neg (by simp), dif_pos (by simp)]
    exact congrArg₂ (· * ·) (congrArg g (Fin.ext (by simp))) (congrArg w (Fin.ext (by simp)))
  · rw [dif_neg (by simp), dif_neg (by simp)]
    exact congrArg₂ (· * ·) (congrArg q (Fin.ext (by simp))) (congrArg w (Fin.ext (by simp; omega)))

end Cert.Tower

end
-- ==== Proof.Block.lean ====
/-
  What one block of the kernel computes: entry `p` of the 4096 × 1 output block is the network's score of sample `p`,
  read from the blocks the kernel is given, when the sample's four indices lie in the rows those blocks hold.

  The kernel multiplies the small embedding tables by their rows of the tower weight first and then picks the products
  by the matrix of zeros and ones; picking is exact, so the picked row is the product of the picked embedding.
-/
module

public import proofs.«01_k».proof.Proof.Gen.KernelIdeal.Frame
public import proofs.«01_k».proof.Proof.OneHot
public import proofs.«01_k».proof.Proof.Tower

@[expose] public section

set_option maxRecDepth 16384

noncomputable section

namespace Cert.KernelIdeal.Block

open Idealize.ShloMosaic Cert.KernelIdeal Cert.KernelIdeal.Gen Cert.KernelIdeal.OneHot Cert.Tower

/-- The network's weights as the kernel's blocks hold them: `W` packs the four weights of width 128 and the four biases
    (joint, user, item, network; then the biases of user, item, network, joint) below one another. -/
def net (W : Vec Ideal S547x128 .f32) (W₁ : Vec Ideal S128x64 .f32) (b₁ : Vec Ideal S64 .f32) (W₂ : Vec Ideal S64x32 .f32)
    (b₂ : Vec Ideal S32 .f32) (Wo : Vec Ideal S32x1 .f32) (bo : Vec Ideal S1 .f32) : Net where
  Wj k j := W (ix2 ⟨k.val, by omega⟩ j)
  Wu k j := W (ix2 ⟨384 + k.val, by omega⟩ j)
  Wi k j := W (ix2 ⟨461 + k.val, by omega⟩ j)
  Wn k j := W (ix2 ⟨533 + k.val, by omega⟩ j)
  bu j := W (ix2 543 j)
  bi j := W (ix2 544 j)
  bn j := W (ix2 545 j)
  bj j := W (ix2 546 j)
  W₁ k j := W₁ (ix2 k j)
  b₁ j := b₁ (ix1 j)
  W₂ k j := W₂ (ix2 k j)
  b₂ j := b₂ (ix1 j)
  Wo k := Wo (ix2 k 0)
  bo := bo (ix1 0)

/-- Sample `p` of the kernel's blocks, whose indices are `u`, `mo`, `i`, `g`: its continuous features lie side by side in
    a row of `x`, and each table holds its embedding. -/
def sample (x : Vec Ideal S4096x31 .f32) (ut it gt : Vec Ideal S16x32 .f32) (mt : Vec Ideal S12x32 .f32) (p : Fin 4096)
    (u i g : Fin 16) (mo : Fin 12) : Sample where
  uc k := x (ix2 p ⟨k.val, by omega⟩)
  ic k := x (ix2 p ⟨13 + k.val, by omega⟩)
  nc k := x (ix2 p ⟨21 + k.val, by omega⟩)
  user k := ut (ix2 u k)
  month k := mt (ix2 mo k)
  item k := it (ix2 i k)
  genre k := gt (ix2 g k)

variable (x : Vec Ideal S4096x31 .f32) (uw iw : Vec Ideal S4096x2 .i32) (W : Vec Ideal S547x128 .f32)
  (ut it gt : Vec Ideal S16x32 .f32) (mt : Vec Ideal S12x32 .f32) (p : Fin 4096) (u i g : Fin 16) (mo : Fin 12)
  (W₁ : Vec Ideal S128x64 .f32) (b₁ : Vec Ideal S64 .f32) (W₂ : Vec Ideal S64x32 .f32) (b₂ : Vec Ideal S32 .f32)
  (Wo : Vec Ideal S32x1 .f32) (bo : Vec Ideal S1 .f32)

/-- Two spellings of a row number of the packed weights name the same row. -/
theorem row_congr {a b : Fin 547} (h : a.val = b.val) (j : Fin 128) : W (ix2 a j) = W (ix2 b j) := by
  rw [Fin.ext h]

/-- Row `u` of the user tower's products: the user table's row `u` times its block of the weight. -/
theorem user_row (j : Fin 128) :
    k0_pay10 (View.ld ut r0_4) (View.ld W r0_5) (View.ld mt r0_6) (View.ld W r0_7) (ix2 ⟨u.val, by omega⟩ j)
      = ∑ k : Fin 32, ut (ix2 u k) * W (ix2 ⟨384 + (13 + k.val), by omega⟩ j) := by
  pointwise [k0_pay10]
  exact Finset.sum_congr rfl fun k _ => congrArg _ (row_congr W (by show 397 + k.val = 384 + (13 + k.val); omega) j)

/-- Row `16 + mo` of the user tower's products: the month table's row `mo` times its block of the weight. -/
theorem month_row (j : Fin 128) :
    k0_pay10 (View.ld ut r0_4) (View.ld W r0_5) (View.ld mt r0_6) (View.ld W r0_7) (ix2 ⟨16 + mo.val, by omega⟩ j)
      = ∑ k : Fin 32, mt (ix2 mo k) * W (ix2 ⟨384 + (13 + 32 + k.val), by omega⟩ j) := by
  pointwise [k0_pay10]
  exact Finset.sum_congr rfl fun k _ => congrArg _ (row_congr W (by show 429 + k.val = 384 + (45 + k.val); omega) j)

/-- A row among the first sixteen of 32 is not one among the last sixteen. -/
theorem apart (a b : Fin 16) : (⟨a.val, by omega⟩ : Fin 32) ≠ ⟨16 + b.val, by omega⟩ := fun e => by
  have h : a.val = 16 + b.val := congrArg Fin.val e
  omega

/-- The user tower of sample `p`. -/
theorem user_tower (hu : uw (ix2 p 0) = BitVec.ofNat 32 u.val) (hm : uw (ix2 p 1) = BitVec.ofNat 32 mo.val) (j : Fin 128) :
    k0_pay15 (k0_pay2 (View.ld x r0_0))
        (k0_pay8 (k0_pay5 (View.ld uw r0_3) (View.ld iw r0_3)) k0_pay6 (iota .tc S1x64 32 [1] iota_S1x64_d1_w32) 16#32)
        (k0_pay10 (View.ld ut r0_4) (View.ld W r0_5) (View.ld mt r0_6) (View.ld W r0_7)) (View.ld W r0_10)
        (View.ld W r0_14) (ix2 p j)
      = tower rfl (sample x ut it gt mt p u i g mo).uc (sample x ut it gt mt p u i g mo).user
          (sample x ut it gt mt p u i g mo).month (net W W₁ b₁ W₂ b₂ Wo bo).Wu (net W W₁ b₁ W₂ b₂ Wo bo).bu j := by
  have h := user_apply (View.ld uw r0_3) (View.ld iw r0_3) p u ⟨mo.val, by omega⟩ (by pointwise; exact hu) (by pointwise; exact hm)
  pointwise [k0_pay15, k0_pay2]
  rw [sum_oneHot₂ _ _ _ _ (apart u _) h]
  refine (congrArg (fun a => max (_ + a + _) 0) (congrArg₂ (· + ·) (user_row W ut mt u j) (month_row W ut mt mo j))).trans ?_
  rfl

/-- Row `i` of the item table times its block of the tower weight. -/
theorem item_row (j : Fin 128) :
    ∑ k : Fin 32, it (ix2 i k) * W (ix2 ⟨469 + k.val, by omega⟩ j) = ∑ k : Fin 32, it (ix2 i k) * W (ix2 ⟨461 + (8 + k.val), by omega⟩ j) :=
  Finset.sum_congr rfl fun k _ => congrArg _ (row_congr W (by show 469 + k.val = 461 + (8 + k.val); omega) j)

/-- Row `g` of the genre table times its block of the tower weight. -/
theorem genre_row (j : Fin 128) :
    ∑ k : Fin 32, gt (ix2 g k) * W (ix2 ⟨501 + k.val, by omega⟩ j)
      = ∑ k : Fin 32, gt (ix2 g k) * W (ix2 ⟨461 + (8 + 32 + k.val), by omega⟩ j) :=
  Finset.sum_congr rfl fun k _ => congrArg _ (row_congr W (by show 501 + k.val = 461 + (8 + 32 + k.val); omega) j)

/-- The item tower of sample `p`. -/
theorem item_tower (hi : iw (ix2 p 0) = BitVec.ofNat 32 i.val) (hg : iw (ix2 p 1) = BitVec.ofNat 32 g.val) (j : Fin 128) :
    k0_pay16 (k0_pay3 (View.ld x r0_1))
        (k0_pay9 (k0_pay5 (View.ld uw r0_3) (View.ld iw r0_3)) k0_pay6 (iota .tc S1x64 32 [1] iota_S1x64_d1_w32) 16#32)
        (k0_pay11 (View.ld it r0_4)) (k0_pay12 (View.ld W r0_8)) (View.ld gt r0_4) (View.ld W r0_9) (View.ld W r0_11)
        (View.ld W r0_15) (ix2 p j)
      = tower rfl (sample x ut it gt mt p u i g mo).ic (sample x ut it gt mt p u i g mo).item
          (sample x ut it gt mt p u i g mo).genre (net W W₁ b₁ W₂ b₂ Wo bo).Wi (net W W₁ b₁ W₂ b₂ Wo bo).bi j := by
  have h := item_apply (View.ld uw r0_3) (View.ld iw r0_3) p i g (by pointwise; exact hi) (by pointwise; exact hg)
  pointwise [k0_pay16, k0_pay3, k0_pay11, k0_pay12]
  rw [sum_oneHot_left _ (fun k => ∑ e : Fin 32, it (ix2 k e) * W (ix2 ⟨469 + e.val, by omega⟩ j)) _ _ h,
    sum_oneHot_right _ (fun k => ∑ e : Fin 32, gt (ix2 k e) * W (ix2 ⟨501 + e.val, by omega⟩ j)) _ _ h, item_row, genre_row]
  rfl

/-- The network's score of sample `p`, from the kernel's blocks. -/
theorem out_apply (hu : uw (ix2 p 0) = BitVec.ofNat 32 u.val) (hm : uw (ix2 p 1) = BitVec.ofNat 32 mo.val)
    (hi : iw (ix2 p 0) = BitVec.ofNat 32 i.val) (hg : iw (ix2 p 1) = BitVec.ofNat 32 g.val) :
    out0_14 x uw iw W ut it gt mt W₁ b₁ W₂ b₂ Wo bo (ix2 p 0)
      = (net W W₁ b₁ W₂ b₂ Wo bo).score (sample x ut it gt mt p u i g mo) := by
  unfold_out out0_14
  rw [View.canon_unit_zero (by funext a; fin_cases a <;> rfl)]
  pointwise [k0_pay1, k0_pay18, k0_pay4, k0_pay13, k0_pay14, k0_pay17]
  simp only [user_tower x uw iw W ut it gt mt p u i g mo W₁ b₁ W₂ b₂ Wo bo hu hm, item_tower x uw iw W ut it gt mt p u i g mo W₁ b₁ W₂ b₂ Wo bo hi hg]
  rfl

end Cert.KernelIdeal.Block

end
-- ==== Proof.Operands.lean ====
/-
  What the kernel is given beside the arguments themselves: the three feature arrays side by side, the four weights of
  width 128 and their biases below one another, and the first sixteen rows of the user and item tables.
-/
module

public import proofs.«01_k».proof.Proof.Gen.KernelIdeal.Frame
public import Idealize.ShloMosaic.Lib.Pointwise
public import Idealize.ShloMosaic.Lib.Claim
public import Idealize.ShloMosaic.Lib.StableHlo.RunRead

@[expose] public section

set_option maxRecDepth 16384

noncomputable section

namespace Cert.KernelIdeal.Operands

open Idealize.ShloMosaic Idealize.ShloMosaic.TcCoe Cert.KernelIdeal Cert.KernelIdeal.Gen

variable (m : (ℓ : Loc nD τ sig) → Buf (Elt Ideal) ℓ) (c : Dev nD)

/-- The three feature arrays side by side, read at their columns: 0 to 12, 13 to 20 and 21 to 30. -/
theorem features_apply (x0 : FVec Ideal S16384x13 .f32) (x1 : FVec Ideal S16384x8 .f32) (x2 : FVec Ideal S16384x10 .f32)
    (x : FVec Ideal S16384x31 .f32)
    (hx : x = concatenate S16384x31 1 [⟨S16384x13, x0⟩, ⟨S16384x8, x1⟩, ⟨S16384x10, x2⟩]
      concatenates_S16384x13_S16384x8_S16384x10_S16384x31_d1) (r : Fin 16384) :
    (∀ k : Fin 13, x (ix2 r ⟨k.val, by omega⟩) = x0 (ix2 r k))
    ∧ (∀ k : Fin 8, x (ix2 r ⟨13 + k.val, by omega⟩) = x1 (ix2 r k))
    ∧ (∀ k : Fin 10, x (ix2 r ⟨21 + k.val, by omega⟩) = x2 (ix2 r k)) := by
  subst hx
  refine ⟨fun k => ?_, fun k => ?_, fun k => ?_⟩ <;> pointwise
  rw [dif_neg (by omega), dif_neg (by omega)]
  exact congrArg x2 (congrArg (ix2 r) (Fin.ext (by show 21 + k.val - 13 - 8 = k.val; omega)))

/-- The features' array. -/
theorem features_entry : (V m c main_v0 : FVec Ideal S16384x31 .f32) = concatenate S16384x31 1
    [⟨S16384x13, m ((c : Thread nD τ).loc main_arg0)⟩, ⟨S16384x8, m ((c : Thread nD τ).loc main_arg1)⟩,
      ⟨S16384x10, m ((c : Thread nD τ).loc main_arg2)⟩]
    concatenates_S16384x13_S16384x8_S16384x10_S16384x31_d1 := by
  entry_read
  rfl

/-- The weights and biases below one another, read at their rows. -/
theorem packed_apply (x9 : FVec Ideal S77x128 .f32) (x11 : FVec Ideal S72x128 .f32) (x13 : FVec Ideal S10x128 .f32)
    (x15 : FVec Ideal S384x128 .f32) (x10 x12 x14 x16 : FVec Ideal S128 .f32) (W : FVec Ideal S547x128 .f32)
    (hW : W = concatenate S547x128 0
      [⟨S384x128, x15⟩, ⟨S77x128, x9⟩, ⟨S72x128, x11⟩, ⟨S10x128, x13⟩,
        ⟨S1x128, shapeCast S1x128 x10 shapeCasts_S128_S1x128⟩, ⟨S1x128, shapeCast S1x128 x12 shapeCasts_S128_S1x128⟩,
        ⟨S1x128, shapeCast S1x128 x14 shapeCasts_S128_S1x128⟩, ⟨S1x128, shapeCast S1x128 x16 shapeCasts_S128_S1x128⟩]
      concatenates_S384x128_S77x128_S72x128_S10x128_S1x128_S1x128_S1x128_S1x128_S547x128_d0) (j : Fin 128) :
    (∀ k : Fin 384, W (ix2 ⟨k.val, by omega⟩ j) = x15 (ix2 k j))
    ∧ (∀ k : Fin 77, W (ix2 ⟨384 + k.val, by omega⟩ j) = x9 (ix2 k j))
    ∧ (∀ k : Fin 72, W (ix2 ⟨461 + k.val, by omega⟩ j) = x11 (ix2 k j))
    ∧ (∀ k : Fin 10, W (ix2 ⟨533 + k.val, by omega⟩ j) = x13 (ix2 k j))
    ∧ W (ix2 543 j) = x10 (ix1 j) ∧ W (ix2 544 j) = x12 (ix1 j) ∧ W (ix2 545 j) = x14 (ix1 j)
    ∧ W (ix2 546 j) = x16 (ix1 j) := by
  subst hW
  refine ⟨fun k => ?_, fun k => ?_, fun k => ?_, fun k => ?_, ?_, ?_, ?_, ?_⟩ <;> pointwise
  · rw [dif_neg (by omega), dif_neg (by omega), dif_pos (by omega)]
    exact congrArg (fun q => x11 (ix2 q j)) (Fin.ext (by show 461 + k.val - 384 - 77 = k.val; omega))
  · rw [dif_neg (by omega), dif_neg (by omega), dif_neg (by omega), dif_pos (by omega)]
    exact congrArg (fun q => x13 (ix2 q j)) (Fin.ext (by show 533 + k.val - 384 - 77 - 72 = k.val; omega))

/-- The device's buffers after the first five operations before the kernel: the features joined, the biases made rows. -/
abbrev early (b : Ref sig .tc) : Buf (Elt Ideal) ((c : Thread nD τ).loc b) :=
  StableHlo.upto hostOps0 (fun b => m (c, b)) 5 b

/-- Those five operations write no argument. -/
theorem early_argument (b : Ref sig .tc) (hb : b ∉ [main_v0, main_v1, main_v2, main_v3, main_v4]) :
    early m c b = m ((c : Thread nD τ).loc b) :=
  StableHlo.upto_unwritten [main_v0, main_v1, main_v2, main_v3, main_v4] rfl hb _

/-- Each of the four biases is there as a row. -/
theorem early_bias :
    early m c main_v1 = shapeCast S1x128 (m ((c : Thread nD τ).loc main_arg10)) shapeCasts_S128_S1x128
    ∧ early m c main_v2 = shapeCast S1x128 (m ((c : Thread nD τ).loc main_arg12)) shapeCasts_S128_S1x128
    ∧ early m c main_v3 = shapeCast S1x128 (m ((c : Thread nD τ).loc main_arg14)) shapeCasts_S128_S1x128
    ∧ early m c main_v4 = shapeCast S1x128 (m ((c : Thread nD τ).loc main_arg16)) shapeCasts_S128_S1x128 := by
  refine ⟨?_, ?_, ?_, ?_⟩
  · rw [early, StableHlo.upto_last_write (i := 1) [main_v2, main_v3, main_v4] rfl rfl (by decide),
      StableHlo.reshape_result', StableHlo.upto_unwritten [main_v0] rfl (by decide)]
    rfl
  · rw [early, StableHlo.upto_last_write (i := 2) [main_v3, main_v4] rfl rfl (by decide),
      StableHlo.reshape_result', StableHlo.upto_unwritten [main_v0, main_v1] rfl (by decide)]
    rfl
  · rw [early, StableHlo.upto_last_write (i := 3) [main_v4] rfl rfl (by decide),
      StableHlo.reshape_result', StableHlo.upto_unwritten [main_v0, main_v1, main_v2] rfl (by decide)]
    rfl
  · rw [early, StableHlo.upto_last_write (i := 4) [] rfl rfl (by decide),
      StableHlo.reshape_result', StableHlo.upto_unwritten [main_v0, main_v1, main_v2, main_v3] rfl (by decide)]
    rfl

/-- The packed weights and biases. -/
theorem packed_entry : (V m c main_v5 : FVec Ideal S547x128 .f32) = concatenate S547x128 0
    [⟨S384x128, m ((c : Thread nD τ).loc main_arg15)⟩, ⟨S77x128, m ((c : Thread nD τ).loc main_arg9)⟩,
      ⟨S72x128, m ((c : Thread nD τ).loc main_arg11)⟩, ⟨S10x128, m ((c : Thread nD τ).loc main_arg13)⟩,
      ⟨S1x128, shapeCast S1x128 (m ((c : Thread nD τ).loc main_arg10)) shapeCasts_S128_S1x128⟩,
      ⟨S1x128, shapeCast S1x128 (m ((c : Thread nD τ).loc main_arg12)) shapeCasts_S128_S1x128⟩,
      ⟨S1x128, shapeCast S1x128 (m ((c : Thread nD τ).loc main_arg14)) shapeCasts_S128_S1x128⟩,
      ⟨S1x128, shapeCast S1x128 (m ((c : Thread nD τ).loc main_arg16)) shapeCasts_S128_S1x128⟩]
    concatenates_S384x128_S77x128_S72x128_S10x128_S1x128_S1x128_S1x128_S1x128_S547x128_d0 := by
  obtain ⟨h1, h2, h3, h4⟩ := early_bias m c
  rw [← h1, ← h2, ← h3, ← h4, ← early_argument m c main_arg15 (by decide), ← early_argument m c main_arg9 (by decide),
    ← early_argument m c main_arg11 (by decide), ← early_argument m c main_arg13 (by decide), V,
    StableHlo.after_last_write (i := 5) [main_v6, main_v7] rfl rfl (by decide), StableHlo.nary_result']
  rfl

/-- The rows of the user table that the kernel is given. -/
theorem user_entry (u : Fin 16) (k : Fin 32) :
    V m c main_v6 (ix2 u k) = m ((c : Thread nD τ).loc main_arg5) (ix2 ⟨u.val, by omega⟩ k) := by
  entry_read
  pointwise

/-- The rows of the item table that the kernel is given. -/
theorem item_entry (i : Fin 16) (k : Fin 32) :
    V m c main_v7 (ix2 i k) = m ((c : Thread nD τ).loc main_arg6) (ix2 ⟨i.val, by omega⟩ k) := by
  entry_read
  pointwise

end Cert.KernelIdeal.Operands

end
-- ==== Proof.Arguments.lean ====
/-
  The network and its samples, read from the argument arrays. Both programs are shown to compute `Net.score` of these.
-/
module

public import proofs.«01_k».proof.Proof.Gen.KernelIdeal.Skeleton
public import Idealize.ShloMosaic.Lib.Pointwise
public import proofs.«01_k».proof.Proof.Tower

@[expose] public section

noncomputable section

namespace Cert.Arguments

open Idealize.ShloMosaic Cert.KernelIdeal Cert.Tower

/-- The network whose weights and biases are the arguments 9 to 22. -/
def net (x9 : FVec Ideal S77x128 .f32) (x10 : FVec Ideal S128 .f32) (x11 : FVec Ideal S72x128 .f32)
    (x12 : FVec Ideal S128 .f32) (x13 : FVec Ideal S10x128 .f32) (x14 : FVec Ideal S128 .f32)
    (x15 : FVec Ideal S384x128 .f32) (x16 : FVec Ideal S128 .f32) (x17 : FVec Ideal S128x64 .f32)
    (x18 : FVec Ideal S64 .f32) (x19 : FVec Ideal S64x32 .f32) (x20 : FVec Ideal S32 .f32)
    (x21 : FVec Ideal S32x1 .f32) (x22 : FVec Ideal S1 .f32) : Net where
  Wu k j := x9 (ix2 k j)
  bu j := x10 (ix1 j)
  Wi k j := x11 (ix2 k j)
  bi j := x12 (ix1 j)
  Wn k j := x13 (ix2 k j)
  bn j := x14 (ix1 j)
  Wj k j := x15 (ix2 k j)
  bj j := x16 (ix1 j)
  W₁ k j := x17 (ix2 k j)
  b₁ j := x18 (ix1 j)
  W₂ k j := x19 (ix2 k j)
  b₂ j := x20 (ix1 j)
  Wo k := x21 (ix2 k 0)
  bo := x22 (ix1 0)

/-- Sample `r` of the batch when its user, month, item and genre indices are `u`, `mo`, `i` and `g`: its continuous
    features are row `r` of the arguments 0 to 2, and its embeddings are those rows of the tables. -/
def sample (x0 : FVec Ideal S16384x13 .f32) (x1 : FVec Ideal S16384x8 .f32) (x2 : FVec Ideal S16384x10 .f32)
    (x5 x6 : FVec Ideal S1000000x32 .f32) (x7 : FVec Ideal S16x32 .f32) (x8 : FVec Ideal S12x32 .f32)
    (r : Fin 16384) (u i g : Fin 16) (mo : Fin 12) : Sample where
  uc k := x0 (ix2 r k)
  ic k := x1 (ix2 r k)
  nc k := x2 (ix2 r k)
  user k := x5 (ix2 ⟨u.val, by omega⟩ k)
  month k := x8 (ix2 mo k)
  item k := x6 (ix2 ⟨i.val, by omega⟩ k)
  genre k := x7 (ix2 g k)

end Cert.Arguments

end
-- ==== Proof.Array.lean ====
/-
  What the kernel's result array holds: entry `r` is the network's score of sample `r`, whose indices are the words the
  two index arrays hold in row `r`, when these lie below the number of table rows the kernel reads.
-/
module

public import proofs.«01_k».proof.Proof.Gen.KernelIdeal.Value
public import proofs.«01_k».proof.Proof.Block
public import proofs.«01_k».proof.Proof.Operands
public import proofs.«01_k».proof.Proof.Arguments
public import Idealize.ShloMosaic.Lib.Pipeline.ValueKit

@[expose] public section

set_option maxRecDepth 16384

noncomputable section

namespace Cert.KernelIdeal.Result

open Idealize.ShloMosaic Idealize.ShloMosaic.TcCoe Cert.KernelIdeal Cert.KernelIdeal.Gen Cert.Tower
open Idealize.ShloMosaic.Pipeline (Dat)

variable (m : (ℓ : Loc nD τ sig) → Buf (Elt Ideal) ℓ) (c : Dev nD)

/-- The argument arrays' network. -/
abbrev argNet : Net :=
  Arguments.net (m ((c : Thread nD τ).loc main_arg9)) (m ((c : Thread nD τ).loc main_arg10))
    (m ((c : Thread nD τ).loc main_arg11)) (m ((c : Thread nD τ).loc main_arg12))
    (m ((c : Thread nD τ).loc main_arg13)) (m ((c : Thread nD τ).loc main_arg14))
    (m ((c : Thread nD τ).loc main_arg15)) (m ((c : Thread nD τ).loc main_arg16))
    (m ((c : Thread nD τ).loc main_arg17)) (m ((c : Thread nD τ).loc main_arg18))
    (m ((c : Thread nD τ).loc main_arg19)) (m ((c : Thread nD τ).loc main_arg20))
    (m ((c : Thread nD τ).loc main_arg21)) (m ((c : Thread nD τ).loc main_arg22))

/-- The argument arrays' sample `r`, whose indices are `u`, `mo`, `i` and `g`. -/
abbrev argSample (r : Fin 16384) (u i g : Fin 16) (mo : Fin 12) : Sample :=
  Arguments.sample (m ((c : Thread nD τ).loc main_arg0)) (m ((c : Thread nD τ).loc main_arg1))
    (m ((c : Thread nD τ).loc main_arg2)) (m ((c : Thread nD τ).loc main_arg5)) (m ((c : Thread nD τ).loc main_arg6))
    (m ((c : Thread nD τ).loc main_arg7)) (m ((c : Thread nD τ).loc main_arg8)) r u i g mo

/-- Where each window's block lies at grid point `t`: the features, both index arrays and the result at block row `t`;
    every other operand is one block. -/
theorem index_val : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_14.index t 0 = t.val ∧ win0_14.index t 1 = 0)
    ∧ (∀ a, win0_3.index t a = 0) ∧ (∀ a, win0_4.index t a = 0) ∧ (∀ a, win0_5.index t a = 0)
    ∧ (∀ a, win0_6.index t a = 0) ∧ (∀ a, win0_7.index t a = 0) ∧ (∀ a, win0_8.index t a = 0)
    ∧ (∀ a, win0_9.index t a = 0) ∧ (∀ a, win0_10.index t a = 0) ∧ (∀ a, win0_11.index t a = 0)
    ∧ (∀ a, win0_12.index t a = 0) ∧ (∀ a, win0_13.index t a = 0) :=
  (by decide +kernel : ∀ t : Fin grid0.N, _)

variable (t : Fin cfg0.N)

/-- Row `p` of block `t` is this row of the batch. -/
def row (p : Fin 4096) : Fin 16384 := ⟨t.val * 4096 + p.val, by have : cfg0.N = 4 := N_0; omega⟩

/-- The blocks of the tiled operands, read at row `p`. -/
theorem tiled_apply (p : Fin 4096) :
    (∀ k : Fin 31, iblk m c 0 t (ix2 p k) = V m c main_v0 (ix2 (row t p) k))
    ∧ (∀ k : Fin 2, iblk m c 1 t (ix2 p k) = m ((c : Thread nD τ).loc main_arg3) (ix2 (row t p) k))
    ∧ (∀ k : Fin 2, iblk m c 2 t (ix2 p k) = m ((c : Thread nD τ).loc main_arg4) (ix2 (row t p) k)) := by
  obtain ⟨⟨e0, e0'⟩, ⟨e1, e1'⟩, ⟨e2, e2'⟩, -⟩ := index_val t
  refine ⟨fun k => ?_, fun k => ?_, fun k => ?_⟩
  · blk_ext [iblk, row, e0, e0']
  · rw [← V_main_arg3 m c]; blk_ext [iblk, row, e1, e1']
  · rw [← V_main_arg4 m c]; blk_ext [iblk, row, e2, e2']

/-- The packed weights' and the tables' blocks are those arrays whole. -/
theorem tables_eq :
    (iblk m c 3 t : FVec Ideal S547x128 .f32) = V m c main_v5 ∧ (iblk m c 4 t : FVec Ideal S16x32 .f32) = V m c main_v6
    ∧ (iblk m c 5 t : FVec Ideal S16x32 .f32) = V m c main_v7
    ∧ (iblk m c 6 t : FVec Ideal S16x32 .f32) = m ((c : Thread nD τ).loc main_arg7)
    ∧ (iblk m c 7 t : FVec Ideal S12x32 .f32) = m ((c : Thread nD τ).loc main_arg8) := by
  obtain ⟨-, -, -, -, e3, e4, e5, e6, e7, -⟩ := index_val t
  refine ⟨?_, ?_, ?_, ?_, ?_⟩
  · blk_ext! [iblk, e3]
  · blk_ext! [iblk, e4]
  · blk_ext! [iblk, e5]
  · rw [← V_main_arg7 m c]; blk_ext! [iblk, e6]
  · rw [← V_main_arg8 m c]; blk_ext! [iblk, e7]

/-- So are the later layers' weights and biases. -/
theorem layers_eq :
    (iblk m c 8 t : FVec Ideal S128x64 .f32) = m ((c : Thread nD τ).loc main_arg17)
    ∧ (iblk m c 9 t : FVec Ideal S64 .f32) = m ((c : Thread nD τ).loc main_arg18)
    ∧ (iblk m c 10 t : FVec Ideal S64x32 .f32) = m ((c : Thread nD τ).loc main_arg19)
    ∧ (iblk m c 11 t : FVec Ideal S32 .f32) = m ((c : Thread nD τ).loc main_arg20)
    ∧ (iblk m c 12 t : FVec Ideal S32x1 .f32) = m ((c : Thread nD τ).loc main_arg21)
    ∧ (iblk m c 13 t : FVec Ideal S1 .f32) = m ((c : Thread nD τ).loc main_arg22) := by
  obtain ⟨-, -, -, -, -, -, -, -, -, e8, e9, e10, e11, e12, e13⟩ := index_val t
  refine ⟨?_, ?_, ?_, ?_, ?_, ?_⟩
  · rw [← V_main_arg17 m c]; blk_ext! [iblk, e8]
  · rw [← V_main_arg18 m c]; blk_ext! [iblk, e9]
  · rw [← V_main_arg19 m c]; blk_ext! [iblk, e10]
  · rw [← V_main_arg20 m c]; blk_ext! [iblk, e11]
  · rw [← V_main_arg21 m c]; blk_ext! [iblk, e12]
  · rw [← V_main_arg22 m c]; blk_ext! [iblk, e13]

/-- The blocks' network is the arguments' network. -/
theorem net_eq :
    Block.net (iblk m c 3 t) (iblk m c 8 t) (iblk m c 9 t) (iblk m c 10 t) (iblk m c 11 t) (iblk m c 12 t) (iblk m c 13 t)
      = argNet m c := by
  obtain ⟨e3, -⟩ := tables_eq m c t
  obtain ⟨e8, e9, e10, e11, e12, e13⟩ := layers_eq m c t
  have h := Operands.packed_apply _ _ _ _ _ _ _ _ _ (Operands.packed_entry m c)
  rw [e3, e8, e9, e10, e11, e12, e13]
  unfold Block.net argNet Arguments.net
  congr 1
  · exact funext fun k => funext fun j => (h j).2.1 k
  · exact funext fun j => (h j).2.2.2.2.1
  · exact funext fun k => funext fun j => (h j).2.2.1 k
  · exact funext fun j => (h j).2.2.2.2.2.1
  · exact funext fun k => funext fun j => (h j).2.2.2.1 k
  · exact funext fun j => (h j).2.2.2.2.2.2.1
  · exact funext fun k => funext fun j => (h j).1 k
  · exact funext fun j => (h j).2.2.2.2.2.2.2

/-- Sample `p` of block `t` is this sample of the batch. -/
theorem sample_eq (p : Fin 4096) (u i g : Fin 16) (mo : Fin 12) :
    Block.sample (iblk m c 0 t) (iblk m c 4 t) (iblk m c 5 t) (iblk m c 6 t) (iblk m c 7 t) p u i g mo
      = argSample m c (row t p) u i g mo := by
  obtain ⟨-, e4, e5, e6, e7⟩ := tables_eq m c t
  have hx := (tiled_apply m c t p).1
  have h := Operands.features_apply _ _ _ _ (Operands.features_entry m c) (row t p)
  rw [e4, e5, e6, e7]
  unfold Block.sample argSample Arguments.sample
  congr 1
  · exact funext fun k => (hx _).trans (h.1 k)
  · exact funext fun k => (hx _).trans (h.2.1 k)
  · exact funext fun k => (hx _).trans (h.2.2 k)
  · exact funext fun k => Operands.user_entry m c u k
  · exact funext fun k => Operands.item_entry m c i k

/-- Entry `p` of what grid point `t` computes is the network's score of that sample. -/
theorem block_apply (p : Fin 4096) (u i g : Fin 16) (mo : Fin 12)
    (hu : m ((c : Thread nD τ).loc main_arg3) (ix2 (row t p) 0) = BitVec.ofNat 32 u.val)
    (hm : m ((c : Thread nD τ).loc main_arg3) (ix2 (row t p) 1) = BitVec.ofNat 32 mo.val)
    (hi : m ((c : Thread nD τ).loc main_arg4) (ix2 (row t p) 0) = BitVec.ofNat 32 i.val)
    (hg : m ((c : Thread nD τ).loc main_arg4) (ix2 (row t p) 1) = BitVec.ofNat 32 g.val) :
    (dats m 0 c).after 14 t (ix2 p 0 : S4096x1.Idx) = (argNet m c).score (argSample m c (row t p) u i g mo) := by
  obtain ⟨-, hw1, hw2⟩ := tiled_apply m c t p
  rw [after0_14, Block.out_apply _ _ _ _ _ _ _ _ p u i g mo _ _ _ _ _ _ ((hw1 0).trans hu) ((hw1 1).trans hm)
    ((hw2 0).trans hi) ((hw2 1).trans hg), net_eq, sample_eq]

/-- An index of an array of one column is its row and column 0. -/
theorem column_index {n : Nat} (y : (⟨2, ![n, 1]⟩ : Shape).Idx) : y = ix2 (y 0) 0 :=
  funext fun a => match a with
    | ⟨0, _⟩ => rfl
    | ⟨1, _⟩ => Fin.ext (Nat.lt_one_iff.1 (y 1).isLt)

/-- Entry `r` of the result array is the network's score of sample `r`, whose indices the two index arrays hold. -/
theorem array_apply (r : Fin 16384) (u i g : Fin 16) (mo : Fin 12)
    (hu : m ((c : Thread nD τ).loc main_arg3) (ix2 r 0) = BitVec.ofNat 32 u.val)
    (hm : m ((c : Thread nD τ).loc main_arg3) (ix2 r 1) = BitVec.ofNat 32 mo.val)
    (hi : m ((c : Thread nD τ).loc main_arg4) (ix2 r 0) = BitVec.ofNat 32 i.val)
    (hg : m ((c : Thread nD τ).loc main_arg4) (ix2 r 1) = BitVec.ofNat 32 g.val) :
    (dats m 0 c).arrAt 14 cfg0.N (ix2 r 0) = (argNet m c).score (argSample m c r u i g mo) := by
  refine (dats m 0 c).arrAt_forall_of_covers 14
    (fun y v => y = ix2 r 0 → v = (argNet m c).score (argSample m c r u i g mo)) (by decide +kernel) ?_
    (ix2 r 0) (Memref.isWhole_whole _) rfl
  intro t _ y hy
  obtain ⟨-, -, -, ⟨e, -⟩, -⟩ := index_val t
  have hr : r = row t (y 0) := by
    have h : ((((cfg0.win 14).blk t).view.emb y) 0 : Nat) = t.val * 4096 + (y 0).val := by blk_simp [e]
    rw [hy] at h
    exact Fin.ext h
  subst hr
  blk_simp
  exact (congrArg ((dats m 0 c).after 14 t) (column_index y)).trans (block_apply m c t (y 0) u i g mo hu hm hi hg)

end Cert.KernelIdeal.Result

end
-- ==== Proof.Take.lean ====
/-
  The reference's table lookups. Each wraps negative indices round, tests that the index names a row, reads that row and
  keeps it where the test holds; at an index that names a row this is the table's row. The four lookups differ in the
  table's number of rows only, so the lookup is read once, at any number of rows.
-/
module

public import proofs.«01_k».proof.Proof.Gen.ReferenceIdeal.Read
public import Idealize.ShloMosaic.Lib.Pointwise
public import Idealize.ShloMosaic.Lib.Routing.Ops
public import Idealize.ShloMosaic.Lib.ReduceAll

@[expose] public section

set_option maxRecDepth 16384

noncomputable section

namespace Cert.ReferenceIdeal.Take

open Idealize.ShloMosaic Cert.ReferenceIdeal Cert.ReferenceIdeal.Gen

/-- A number below `2 ^ 31`, as a word, is that number when read as a signed integer. -/
theorem toInt_ofNat {n : Nat} (h : n < 2 ^ 31) : (BitVec.ofNat 32 n).toInt = n := by
  rw [BitVec.toInt_eq_toNat_of_lt] <;> simp only [BitVec.toNat_ofNat] <;> omega

/-- The row numbers a lookup reads: the indices, a negative one moved up by the number of rows. -/
def rows (w : IVec S16384 32) (n : BitVec 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 n))) w)

/-- Where the row numbers lie between 0 and the last row. -/
def inside (v : IVec S16384x1 32) (last : BitVec 32) : IVec S16384 1 :=
  Host.reduce IntOp.andi
    (andi (cmpi .sge v (broadcastInDim S16384x1 ![] bcast_S_S16384x1 (constantI S_ 32 0#32)))
      (cmpi .sle v (broadcastInDim S16384x1 ![0, 1] bcast_S1x1_S16384x1_0_1
        (broadcastInDim S1x1 ![1] bcast_S1_S1x1_1 (constantI S1 32 last)))))
    (constantI S_ 1 1#1) reducesTo_S16384x1_S16384_d1 h_S_

/-- A row number that is not negative is the index itself. -/
theorem rows_apply (w : IVec S16384 32) (n : BitVec 32) (r : Fin 16384) (k : Nat) (hk : k < 2 ^ 31)
    (hw : w (ix1 r) = BitVec.ofNat 32 k) : rows w n (ix2 r 0) = BitVec.ofNat 32 k := by
  pointwise [rows]
  rw [hw]
  have h : IntOp.cmpi .slt (BitVec.ofNat 32 k) 0#32 = 0#1 := by
    simp only [IntOp.cmpi, BitVec.slt, toInt_ofNat hk]
    rw [decide_eq_false (by show ¬(k : Int) < 0; omega)]
    rfl
  rw [h]
  rfl

/-- Every row number that names a row lies inside. -/
theorem inside_apply (v : IVec S16384x1 32) (last : Nat) (hl : last < 2 ^ 31) (k : Fin 16384 → Nat) (hk : ∀ r, k r ≤ last)
    (hv : ∀ r, v (ix2 r 0) = BitVec.ofNat 32 (k r)) (r : Fin 16384) : inside v (BitVec.ofNat 32 last) (ix1 r) = 1#1 := by
  refine Host.reduce_andi_one _ _ _ _ _ rfl fun i => ?_
  obtain ⟨q, rfl⟩ : ∃ q : Fin 16384, i = ix2 q 0 :=
    ⟨i 0, funext fun a => match a with
      | ⟨0, _⟩ => rfl
      | ⟨1, _⟩ => Fin.ext (Nat.lt_one_iff.1 (i 1).isLt)⟩
  pointwise
  rw [hv]
  have hq := hk q
  simp only [IntOp.cmpi, BitVec.sle, toInt_ofNat hl, toInt_ofNat (Nat.lt_of_le_of_lt hq hl)]
  rw [decide_eq_true (by show (0 : Int) ≤ (k q : Int); omega), decide_eq_true (by omega)]
  rfl

/-- A lookup in a table of `N` rows, at indices that name rows, is those rows. -/
theorem take_apply {N : Nat} (hN : N < 2 ^ 31) (d : GatherDims ⟨2, ![N, 32]⟩ S16384x1 S16384x32)
    (hoff : d.offsetDims = [1]) (hcoll : d.collapsedSliceDims = [0]) (hob : d.operandBatchingDims = [])
    (hsim : d.startIndexMap = [0]) (hivd : d.indexVectorDim = 1) (x : FVec Ideal ⟨2, ![N, 32]⟩ .f32) (w : IVec S16384 32)
    (n : BitVec 32) (last : Nat) (hlast : N = last + 1) (k : Fin 16384 → Fin N)
    (hw : ∀ r, w (ix1 r) = BitVec.ofNat 32 (k r).val) (z : FVec Ideal S16384x32 .f32) (r : Fin 16384) (y : Fin 32) :
    select (broadcastInDim S16384x32 ![0] bcast_S16384_S16384x32_0 (inside (rows w n) (BitVec.ofNat 32 last)))
      (Host.gather d x (rows w n)) z (ix2 r y) = x (ix2 (k r) y) := by
  have hr : ∀ r, rows w n (ix2 r 0) = BitVec.ofNat 32 (k r).val := fun r => rows_apply w n r _ (by omega) (hw r)
  have hin := inside_apply (rows w n) last (by omega) (fun r => (k r).val) (fun r => by omega) hr r
  have hg : Host.gather d x (rows w n) (ix2 r y) = x (ix2 (k r) y) := by
    rw [ix2_eq_valueIdx, ix2_eq_valueIdx]
    exact Routing.gather_row d hoff hcoll hob hsim hivd x _ r y (k r) (by rw [← ix2_eq_valueIdx]; exact hr r) hN
  generalize inside (rows w n) (BitVec.ofNat 32 last) = q at hin
  generalize Host.gather d x (rows w n) = g at hg
  pointwise
  rw [hin, hg]
  rfl

end Cert.ReferenceIdeal.Take

end
-- ==== Proof.Reference.lean ====
/-
  What the reference computes: entry `r` of its result is the network's score of sample `r`, whose indices are the words
  the two index arrays hold in row `r`, when these name rows of the small tables.
-/
module

public import proofs.«01_k».proof.Proof.Take
public import proofs.«01_k».proof.Proof.Arguments

@[expose] public section

set_option maxRecDepth 16384

noncomputable section

namespace Cert.ReferenceIdeal.Result

open Idealize.ShloMosaic Cert.ReferenceIdeal Cert.ReferenceIdeal.Gen Cert.ReferenceIdeal.Read Cert.ReferenceIdeal.Take
open Cert.Tower

variable (x0 : FVec Ideal S16384x13 .f32) (x1 : FVec Ideal S16384x8 .f32) (x2 : FVec Ideal S16384x10 .f32)
  (x3 x4 : IVec S16384x2 32) (x5 x6 : FVec Ideal S1000000x32 .f32) (x7 : FVec Ideal S16x32 .f32)
  (x8 : FVec Ideal S12x32 .f32) (x9 : FVec Ideal S77x128 .f32) (x10 : FVec Ideal S128 .f32)
  (x11 : FVec Ideal S72x128 .f32) (x12 : FVec Ideal S128 .f32) (x13 : FVec Ideal S10x128 .f32)
  (x14 : FVec Ideal S128 .f32) (x15 : FVec Ideal S384x128 .f32) (x16 : FVec Ideal S128 .f32)
  (x17 : FVec Ideal S128x64 .f32) (x18 : FVec Ideal S64 .f32) (x19 : FVec Ideal S64x32 .f32)
  (x20 : FVec Ideal S32 .f32) (x21 : FVec Ideal S32x1 .f32) (x22 : FVec Ideal S1 .f32)
  (u i g : Fin 16384 → Fin 16) (mo : Fin 16384 → Fin 12) (r : Fin 16384)

/-- The user embeddings. -/
theorem user_apply (hu : ∀ r, x3 (ix2 r 0) = BitVec.ofNat 32 (u r).val) (y : Fin 32) :
    val_main_v2 (F := Ideal) x3 x5 (ix2 r y) = x5 (ix2 ⟨(u r).val, by omega⟩ y) :=
  take_apply (by norm_num) gather_S1000000x32_S16384x1_S16384x32_1_0_n_n_0_1_132 rfl rfl rfl rfl rfl x5
    (val_main_v1 (F := Ideal) x3) 1000000#32 999999 rfl (fun r => ⟨(u r).val, by omega⟩)
    (fun r => by pointwise [val_main_v1, val_main_v0]; exact hu r) _ r y

/-- The month embeddings. -/
theorem month_apply (hm : ∀ r, x3 (ix2 r 1) = BitVec.ofNat 32 (mo r).val) (y : Fin 32) :
    val_main_v5 (F := Ideal) x3 x8 (ix2 r y) = x8 (ix2 (mo r) y) :=
  take_apply (by norm_num) gather_S12x32_S16384x1_S16384x32_1_0_n_n_0_1_132 rfl rfl rfl rfl rfl x8
    (val_main_v4 (F := Ideal) x3) 12#32 11 rfl mo
    (fun r => by pointwise [val_main_v4, val_main_v3]; exact hm r) _ r y

/-- The item embeddings. -/
theorem item_apply (hi : ∀ r, x4 (ix2 r 0) = BitVec.ofNat 32 (i r).val) (y : Fin 32) :
    val_main_v8 (F := Ideal) x4 x6 (ix2 r y) = x6 (ix2 ⟨(i r).val, by omega⟩ y) :=
  take_apply (by norm_num) gather_S1000000x32_S16384x1_S16384x32_1_0_n_n_0_1_132 rfl rfl rfl rfl rfl x6
    (val_main_v7 (F := Ideal) x4) 1000000#32 999999 rfl (fun r => ⟨(i r).val, by omega⟩)
    (fun r => by pointwise [val_main_v7, val_main_v6]; exact hi r) _ r y

/-- The genre embeddings. -/
theorem genre_apply (hg : ∀ r, x4 (ix2 r 1) = BitVec.ofNat 32 (g r).val) (y : Fin 32) :
    val_main_v11 (F := Ideal) x4 x7 (ix2 r y) = x7 (ix2 (g r) y) :=
  take_apply (by norm_num) gather_S16x32_S16384x1_S16384x32_1_0_n_n_0_1_132 rfl rfl rfl rfl rfl x7
    (val_main_v10 (F := Ideal) x4) 16#32 15 rfl g
    (fun r => by pointwise [val_main_v10, val_main_v9]; exact hg r) _ r y

/-- The user tower's result: a dense layer over the features, the user embedding and the month embedding. -/
theorem user_tower (j : Fin 128) :
    val_main_v18 (F := Ideal) x0 x3 x5 x8 x9 x10 (ix2 r j)
      = tower (N := 77) rfl (fun k => x0 (ix2 r k)) (fun k => val_main_v2 (F := Ideal) x3 x5 (ix2 r k))
          (fun k => val_main_v5 (F := Ideal) x3 x8 (ix2 r k)) (fun k j => x9 (ix2 k j)) (fun j => x10 (ix1 j)) j := by
  pointwise [val_main_v18, val_main_v17, val_main_v16, val_main_v15, val_main_v14, val_main_v12, val_main_call4_v0, val_main_call4_cst]
  exact congrArg₂ max (congrArg (· + _) (sum_parts rfl (fun k => x0 (ix2 r k)) (fun k => val_main_v2 (F := Ideal) x3 x5 (ix2 r k))
    (fun k => val_main_v5 (F := Ideal) x3 x8 (ix2 r k)) (fun k => x9 (ix2 k j)))) rfl

/-- The item tower's result: a dense layer over the features, the item embedding and the genre embedding. -/
theorem item_tower (j : Fin 128) :
    val_main_v23 (F := Ideal) x1 x4 x6 x7 x11 x12 (ix2 r j)
      = tower (N := 72) rfl (fun k => x1 (ix2 r k)) (fun k => val_main_v8 (F := Ideal) x4 x6 (ix2 r k))
          (fun k => val_main_v11 (F := Ideal) x4 x7 (ix2 r k)) (fun k j => x11 (ix2 k j)) (fun j => x12 (ix1 j)) j := by
  pointwise [val_main_v23, val_main_v22, val_main_v21, val_main_v20, val_main_v19, val_main_v13, val_main_call5_v0, val_main_call5_cst]
  exact congrArg₂ max (congrArg (· + _) (sum_parts rfl (fun k => x1 (ix2 r k)) (fun k => val_main_v8 (F := Ideal) x4 x6 (ix2 r k))
    (fun k => val_main_v11 (F := Ideal) x4 x7 (ix2 r k)) (fun k => x11 (ix2 k j)))) rfl

/-- The network tower's result: a dense layer over the features. -/
theorem network_tower (j : Fin 128) :
    val_main_v28 (F := Ideal) x2 x13 x14 (ix2 r j)
      = dense (fun k => x2 (ix2 r k)) (fun k j => x13 (ix2 k j)) (fun j => x14 (ix1 j)) j := by
  pointwise [val_main_v28, val_main_v27, val_main_v26, val_main_v25, val_main_v24, val_main_call6_v0, val_main_call6_cst]
  rfl

/-- The joining layer's result over the three towers' results. -/
theorem joint_layer (j : Fin 128) :
    val_main_v34 (F := Ideal) x0 x1 x2 x3 x4 x5 x6 x7 x8 x9 x10 x11 x12 x13 x14 x15 x16 (ix2 r j)
      = joint (fun k => val_main_v18 (F := Ideal) x0 x3 x5 x8 x9 x10 (ix2 r k))
          (fun k => val_main_v23 (F := Ideal) x1 x4 x6 x7 x11 x12 (ix2 r k))
          (fun k => val_main_v28 (F := Ideal) x2 x13 x14 (ix2 r k)) (fun k j => x15 (ix2 k j)) (fun j => x16 (ix1 j)) j := by
  pointwise [val_main_v34, val_main_v33, val_main_v32, val_main_v31, val_main_v30, val_main_v29, val_main_call7_v0, val_main_call7_cst]
  rw [joint, add_assoc (∑ k : Fin 128, _)]
  exact congrArg₂ max (congrArg (· + _) (sum_parts rfl (fun k => val_main_v18 (F := Ideal) x0 x3 x5 x8 x9 x10 (ix2 r k))
    (fun k => val_main_v23 (F := Ideal) x1 x4 x6 x7 x11 x12 (ix2 r k))
    (fun k => val_main_v28 (F := Ideal) x2 x13 x14 (ix2 r k)) (fun k => x15 (ix2 k j)))) rfl

/-- The last three layers over the joining layer's result. -/
theorem last_layers :
    val_main_v48 (F := Ideal) x0 x1 x2 x3 x4 x5 x6 x7 x8 x9 x10 x11 x12 x13 x14 x15 x16 x17 x18 x19 x20 x21 x22 (ix2 r 0)
      = ∑ k, dense (dense (fun k =>
          val_main_v34 (F := Ideal) x0 x1 x2 x3 x4 x5 x6 x7 x8 x9 x10 x11 x12 x13 x14 x15 x16 (ix2 r k))
          (fun k j => x17 (ix2 k j)) (fun j => x18 (ix1 j))) (fun k j => x19 (ix2 k j)) (fun j => x20 (ix1 j)) k * x21 (ix2 k 0)
        + x22 (ix1 0) := by
  pointwise [val_main_v48, val_main_v47, val_main_v46, val_main_v45, val_main_v44, val_main_v43, val_main_v42, val_main_v41,
    val_main_v40, val_main_v39, val_main_v38, val_main_v37, val_main_v36, val_main_v35, val_main_call8_v0, val_main_call8_cst,
    val_main_call9_v0, val_main_call9_cst]
  rfl

/-- Entry `r` of the reference's result is the network's score of sample `r`, whose indices the two index arrays hold. -/
theorem result_apply (hu : ∀ r, x3 (ix2 r 0) = BitVec.ofNat 32 (u r).val) (hm : ∀ r, x3 (ix2 r 1) = BitVec.ofNat 32 (mo r).val)
    (hi : ∀ r, x4 (ix2 r 0) = BitVec.ofNat 32 (i r).val) (hg : ∀ r, x4 (ix2 r 1) = BitVec.ofNat 32 (g r).val) :
    val_main_v48 (F := Ideal) x0 x1 x2 x3 x4 x5 x6 x7 x8 x9 x10 x11 x12 x13 x14 x15 x16 x17 x18 x19 x20 x21 x22 (ix2 r 0)
      = (Arguments.net x9 x10 x11 x12 x13 x14 x15 x16 x17 x18 x19 x20 x21 x22).score
          (Arguments.sample x0 x1 x2 x5 x6 x7 x8 r (u r) (i r) (g r) (mo r)) := by
  rw [last_layers]
  simp only [joint_layer, user_tower, item_tower, network_tower, user_apply x3 x5 u _ hu, month_apply x3 x8 mo _ hm,
    item_apply x4 x6 i _ hi, genre_apply x4 x7 g _ hg]
  rfl

end Cert.ReferenceIdeal.Result

end
-- ==== Proof.Indices.lean ====
/-
  What the precondition gives: in every row, the words of the two index arrays are numbers of table rows — below 12 in the
  array that holds user and month, below 16 in the array that holds item and genre.
-/
module

public import proofs.«01_k».proof.Defs
public import Idealize.ShloMosaic.Lib.Pointwise

@[expose] public section

noncomputable section

namespace Cert.Pre_indices_in_range

open Idealize.ShloMosaic

/-- The precondition's one shape relation: a scalar is spread over the index arrays. -/
theorem facts : Facts where
  bcast_S_S16384x2 := by decide

/-- A conjunction of two truth values is 1 only when both are. -/
theorem and_one : ∀ a b : BitVec 1, IntOp.andi a b = 1#1 → a = 1#1 ∧ b = 1#1 := by decide

/-- A word that lies between 0 and `n` as a signed integer is a number below `n`. -/
theorem exists_of_between {n : Nat} (hn : n < 2 ^ 31) (w : BitVec 32) (h₀ : IntOp.cmpi .sge w 0#32 = 1#1)
    (h₁ : IntOp.cmpi .slt w (BitVec.ofNat 32 n) = 1#1) : ∃ k : Fin n, w = BitVec.ofNat 32 k.val := by
  have one : ∀ b : Bool, BitVec.ofBool b = 1#1 → b = true := by decide
  have h₀' : (0 : Int) ≤ w.toInt := of_decide_eq_true (one _ h₀)
  have h₁' : w.toInt < (BitVec.ofNat 32 n).toInt := of_decide_eq_true (one _ h₁)
  have hn' : (BitVec.ofNat 32 n).toInt = n := by
    rw [BitVec.toInt_eq_toNat_of_lt] <;> simp only [BitVec.toNat_ofNat] <;> omega
  have hw : w.toInt = w.toNat := by
    rw [BitVec.toInt_eq_toNat_cond] at h₀' ⊢
    have := w.isLt
    split_ifs at h₀' ⊢ <;> omega
  exact ⟨⟨w.toNat, by omega⟩, by simp⟩

end Cert.Pre_indices_in_range

namespace Cert.KernelIdeal.Indices

open Idealize.ShloMosaic Idealize.ShloMosaic.TcCoe Cert.KernelIdeal Cert.Pre_indices_in_range

/-- Under the precondition every word of the index arrays is the number of a table row. -/
theorem words (m : (ℓ : Loc nD τ sig) → Buf (Elt Ideal) ℓ)
    (h : Pre_KernelIdeal_indices_in_range (hPre_indices_in_range := facts) m) (c : Dev nD) (i : S16384x2.Idx) :
    (∃ k : Fin 12, m ((c : Thread nD τ).loc main_arg3) i = BitVec.ofNat 32 k.val)
    ∧ ∃ k : Fin 16, m ((c : Thread nD τ).loc main_arg4) i = BitVec.ofNat 32 k.val := by
  have hi := congrFun (h c) i
  unfold Cert.Pre_indices_in_range.fn at hi
  pointwise at hi
  obtain ⟨h123, h4⟩ := and_one _ _ hi
  obtain ⟨h12, h3⟩ := and_one _ _ h123
  obtain ⟨h1, h2⟩ := and_one _ _ h12
  exact ⟨exists_of_between (by norm_num) _ h1 h2, exists_of_between (by norm_num) _ h3 h4⟩

end Cert.KernelIdeal.Indices

end
-- ==== Proof.lean ====
/-
  The proof of `Cert.Claim`: both kernels' frames and the reference's, that the idealised kernel keeps the kernel's
  operations, and that over the extended reals the kernel's result is the reference's. The last is the meeting of two
  readings of the same score: `Result.array_apply` for the kernel's array and `Result.result_apply` for the reference.
-/
module

public import proofs.«01_k».proof.Defs
public import proofs.«01_k».proof.Proof.Gen.Kernel.Frame
public import proofs.«01_k».proof.Proof.Array
public import proofs.«01_k».proof.Proof.Reference
public import proofs.«01_k».proof.Proof.Indices
public import Idealize.ShloMosaic.Lib.Quiescent

@[expose] public section

noncomputable section

namespace Cert.Proof

open Idealize.ShloMosaic Idealize.ShloMosaic.TcCoe Idealize.SL.Sem

/-- The kernel runs to its end, leaves its arguments and ends with every semaphore at zero. -/
theorem frame_kernel : Cert.quiescent_Kernel := fun m ρ _ => Cert.Kernel.Gen.frame m ρ

/-- So does the idealised kernel. -/
theorem frame_ideal : Cert.quiescent_KernelIdeal := fun m ρ _ => Cert.KernelIdeal.Gen.frame m ρ

/-- So does the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From arguments that agree and whose indices are in range, the reference's result is the kernel's. -/
theorem result_eq (m : (ℓ : Loc KernelIdeal.nD KernelIdeal.τ KernelIdeal.sig) → Buf (Elt Ideal) ℓ)
    (hpre : Pre_KernelIdeal_indices_in_range (hPre_indices_in_range := Pre_indices_in_range.facts) m)
    (c : Dev KernelIdeal.nD) :
    Cert.ReferenceIdeal.Read.val_main_v48 (F := Ideal)
      (m ((c : Thread KernelIdeal.nD KernelIdeal.τ).loc KernelIdeal.main_arg0))
      (m ((c : Thread KernelIdeal.nD KernelIdeal.τ).loc KernelIdeal.main_arg1))
      (m ((c : Thread KernelIdeal.nD KernelIdeal.τ).loc KernelIdeal.main_arg2))
      (m ((c : Thread KernelIdeal.nD KernelIdeal.τ).loc KernelIdeal.main_arg3))
      (m ((c : Thread KernelIdeal.nD KernelIdeal.τ).loc KernelIdeal.main_arg4))
      (m ((c : Thread KernelIdeal.nD KernelIdeal.τ).loc KernelIdeal.main_arg5))
      (m ((c : Thread KernelIdeal.nD KernelIdeal.τ).loc KernelIdeal.main_arg6))
      (m ((c : Thread KernelIdeal.nD KernelIdeal.τ).loc KernelIdeal.main_arg7))
      (m ((c : Thread KernelIdeal.nD KernelIdeal.τ).loc KernelIdeal.main_arg8))
      (m ((c : Thread KernelIdeal.nD KernelIdeal.τ).loc KernelIdeal.main_arg9))
      (m ((c : Thread KernelIdeal.nD KernelIdeal.τ).loc KernelIdeal.main_arg10))
      (m ((c : Thread KernelIdeal.nD KernelIdeal.τ).loc KernelIdeal.main_arg11))
      (m ((c : Thread KernelIdeal.nD KernelIdeal.τ).loc KernelIdeal.main_arg12))
      (m ((c : Thread KernelIdeal.nD KernelIdeal.τ).loc KernelIdeal.main_arg13))
      (m ((c : Thread KernelIdeal.nD KernelIdeal.τ).loc KernelIdeal.main_arg14))
      (m ((c : Thread KernelIdeal.nD KernelIdeal.τ).loc KernelIdeal.main_arg15))
      (m ((c : Thread KernelIdeal.nD KernelIdeal.τ).loc KernelIdeal.main_arg16))
      (m ((c : Thread KernelIdeal.nD KernelIdeal.τ).loc KernelIdeal.main_arg17))
      (m ((c : Thread KernelIdeal.nD KernelIdeal.τ).loc KernelIdeal.main_arg18))
      (m ((c : Thread KernelIdeal.nD KernelIdeal.τ).loc KernelIdeal.main_arg19))
      (m ((c : Thread KernelIdeal.nD KernelIdeal.τ).loc KernelIdeal.main_arg20))
      (m ((c : Thread KernelIdeal.nD KernelIdeal.τ).loc KernelIdeal.main_arg21))
      (m ((c : Thread KernelIdeal.nD KernelIdeal.τ).loc KernelIdeal.main_arg22))
      = (KernelIdeal.Gen.dats m 0 c).arrAt 14 KernelIdeal.cfg0.N := by
  choose u hu using fun r : Fin 16384 => (KernelIdeal.Indices.words m hpre c (ix2 r 0)).1
  choose mo hm using fun r : Fin 16384 => (KernelIdeal.Indices.words m hpre c (ix2 r 1)).1
  choose i hi using fun r : Fin 16384 => (KernelIdeal.Indices.words m hpre c (ix2 r 0)).2
  choose g hg using fun r : Fin 16384 => (KernelIdeal.Indices.words m hpre c (ix2 r 1)).2
  have key := fun y : KernelIdeal.S16384x1.Idx =>
    (ReferenceIdeal.Result.result_apply _ _ _ _ _ _ _ _ _ _ _ _ _ _ _ _ _ _ _ _ _ _ _
      (fun r => (u r).castLE (by omega)) i g mo (y 0) hu hm hi hg).trans
    (KernelIdeal.Result.array_apply m c (y 0) ((u (y 0)).castLE (by omega)) (i (y 0)) (g (y 0)) (mo (y 0))
      (hu (y 0)) (hm (y 0)) (hi (y 0)) (hg (y 0))).symm
  refine funext fun y => ?_
  rw [KernelIdeal.Result.column_index y]
  exact key y

/-- From arguments that agree and whose indices are in range, the kernel and the reference end with the same result. -/
theorem algebraic : Cert.algebraic_KernelIdeal_ReferenceIdeal_pre_indices_in_range
    (hPre_indices_in_range := Pre_indices_in_range.facts) := by
  intro m ρ m' ρ' hpre hagree
  refine ⟨fun c => (KernelIdeal.Gen.dats m 0 c).arrAt 14 KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22⟩ := hagree c
  rw [Cert.ReferenceIdeal.Read.val_main_v48_eq, h0, h1, h2, h3, h4, h5, h6, h7, h8, h9, h10, h11, h12, h13, h14, h15, h16, h17, h18, h19, h20, h21, h22]
  exact result_eq m hpre c

/-- Everything the certificate claims. -/
theorem claim : Cert.Claim :=
  ⟨Cert.Kernel.Gen.facts, Cert.KernelIdeal.Gen.facts, Cert.ReferenceIdeal.Gen.facts, Pre_indices_in_range.facts,
    frame_kernel, frame_ideal, fun m ρ _ => frame_ideal m ρ trivial, frame_reference,
    fun m ρ _ => frame_reference m ρ trivial, trivial, algebraic⟩

end Cert.Proof

end
